-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x128x3 : Shape := ⟨3, ![32, 128, 3]⟩
abbrev S32x128 : Shape := ⟨2, ![32, 128]⟩
abbrev S32x128x3x20x2 : Shape := ⟨5, ![32, 128, 3, 20, 2]⟩
abbrev S32x128x3x20 : Shape := ⟨4, ![32, 128, 3, 20]⟩
abbrev S32x128x20 : Shape := ⟨3, ![32, 128, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S_ : Shape := ⟨0, ![]⟩
abbrev S32x128x2 : Shape := ⟨3, ![32, 128, 2]⟩

class Facts : Prop where
  bcast_S_S32x128 : S_.BroadcastsInDim S32x128 (![] : Fin 0 → Fin S32x128.rank)
  slices_S32x128x3_S32x128x2_0_0_0 : S32x128x3.Slices ![0, 0, 0] S32x128x2
  bcast_S_S32x128x2 : S_.BroadcastsInDim S32x128x2 (![] : Fin 0 → Fin S32x128x2.rank)
  slices_S6x128_S2x128_0_0 : S6x128.Slices ![0, 0] S2x128
  bcast_S_S2x128 : S_.BroadcastsInDim S2x128 (![] : Fin 0 → Fin S2x128.rank)
  reducesTo_S32x128_S_d0_1 : S32x128.ReducesTo [0, 1] S_
  h_S_ : 0 < S_.numel
  reducesTo_S32x128x2_S_d0_1_2 : S32x128x2.ReducesTo [0, 1, 2] S_
  reducesTo_S2x128_S_d0_1 : S2x128.ReducesTo [0, 1] S_

variable [Facts]

def fn_part1 {F : FTy → Type} [FloatOps F] (main_arg11 : FVec F S6x128 .f32) (main_v16 : IVec S32x128 1) (main_v17 : FVec F S32x128x2 .f32) : IVec S_ 1 :=
  let main_v18 : FVec F S32x128x2 .f32 := Host.absf main_v17
  let main_cst : FVec F S_ .f32 := constant S_ .f32 0x7F800000#32
  let main_v19 : FVec F S32x128x2 .f32 := broadcastInDim S32x128x2 ![] bcast_S_S32x128x2 main_cst
  let main_v20 : IVec S32x128x2 1 := cmpf .olt main_v18 main_v19
  let main_v21 : FVec F S2x128 .f32 := (extractStridedSlice S2x128 ![0, 0] · slices_S6x128_S2x128_0_0) main_arg11
  let main_v22 : FVec F S2x128 .f32 := Host.absf main_v21
  let main_cst_5 : FVec F S_ .f32 := constant S_ .f32 0x7F800000#32
  let main_v23 : FVec F S2x128 .f32 := broadcastInDim S2x128 ![] bcast_S_S2x128 main_cst_5
  let main_v24 : IVec S2x128 1 := cmpf .olt main_v22 main_v23
  let main_c_6 : IVec S_ 1 := constantI S_ 1 1#1
  let main_v25 : IVec S_ 1 := (fun x v => Host.reduce IntOp.andi x v reducesTo_S32x128_S_d0_1 h_S_) main_v16 main_c_6
  let main_c_7 : IVec S_ 1 := constantI S_ 1 1#1
  let main_v26 : IVec S_ 1 := (fun x v => Host.reduce IntOp.andi x v reducesTo_S32x128x2_S_d0_1_2 h_S_) main_v20 main_c_7
  let main_v27 : IVec S_ 1 := andi main_v25 main_v26
  let main_c_8 : IVec S_ 1 := constantI S_ 1 1#1
  let main_v28 : IVec S_ 1 := (fun x v => Host.reduce IntOp.andi x v reducesTo_S2x128_S_d0_1 h_S_) main_v24 main_c_8
  let main_v29 : IVec S_ 1 := andi main_v27 main_v28
  main_v29

def fn {F : FTy → Type} [FloatOps F] (main_arg0 : FVec F S32x128x3 .f32) (main_arg1 : IVec S32x128 32) (main_arg2 : IVec S32x128 32) (main_arg3 : IVec S32x128 32) (main_arg4 : IVec S32x128 1) (main_arg5 : FVec F S32x128 .f32) (main_arg6 : FVec F S32x128x3x20x2 .f32) (main_arg7 : FVec F S32x128x3x20x2 .f32) (main_arg8 : FVec F S32x128x3x20 .f32) (main_arg9 : FVec F S32x128 .f32) (main_arg10 : IVec S32x128x20 1) (main_arg11 : FVec F S6x128 .f32) (main_arg12 : FVec F S128 .f32) (main_arg13 : FVec F S128x256 .f32) (main_arg14 : FVec F S256 .f32) (main_arg15 : FVec F S512x256 .f32) (main_arg16 : FVec F S256 .f32) (main_arg17 : FVec F S256x128 .f32) (main_arg18 : FVec F S128 .f32) (main_arg19 : FVec F S1x128 .f32) (main_arg20 : FVec F S128 .f32) (main_arg21 : FVec F S128x128 .f32) (main_arg22 : FVec F S128 .f32) (main_arg23 : FVec F S3x128 .f32) (main_arg24 : FVec F S2x128 .f32) (main_arg25 : FVec F S4x128 .f32) (main_arg26 : FVec F S1x128 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg1 main_v0
  let main_c_0 : IVec S_ 32 := constantI S_ 32 3#32
  let main_v2 : IVec S32x128 32 := broadcastInDim S32x128 ![] bcast_S_S32x128 main_c_0
  let main_v3 : IVec S32x128 1 := cmpi .slt main_arg1 main_v2
  let main_v4 : IVec S32x128 1 := andi main_v1 main_v3
  let main_c_1 : IVec S_ 32 := constantI S_ 32 0#32
  let main_v5 : IVec S32x128 32 := broadcastInDim S32x128 ![] bcast_S_S32x128 main_c_1
  let main_v6 : IVec S32x128 1 := cmpi .sge main_arg2 main_v5
  let main_v7 : IVec S32x128 1 := andi main_v4 main_v6
  let main_c_2 : IVec S_ 32 := constantI S_ 32 2#32
  let main_v8 : IVec S32x128 32 := broadcastInDim S32x128 ![] bcast_S_S32x128 main_c_2
  let main_v9 : IVec S32x128 1 := cmpi .slt main_arg2 main_v8
  let main_v10 : IVec S32x128 1 := andi main_v7 main_v9
  let main_c_3 : IVec S_ 32 := constantI S_ 32 0#32
  let main_v11 : IVec S32x128 32 := broadcastInDim S32x128 ![] bcast_S_S32x128 main_c_3
  let main_v12 : IVec S32x128 1 := cmpi .sge main_arg3 main_v11
  let main_v13 : IVec S32x128 1 := andi main_v10 main_v12
  let main_c_4 : IVec S_ 32 := constantI S_ 32 4#32
  let main_v14 : IVec S32x128 32 := broadcastInDim S32x128 ![] bcast_S_S32x128 main_c_4
  let main_v15 : IVec S32x128 1 := cmpi .slt main_arg3 main_v14
  let main_v16 : IVec S32x128 1 := andi main_v13 main_v15
  let main_v17 : FVec F S32x128x2 .f32 := (extractStridedSlice S32x128x2 ![0, 0, 0] · slices_S32x128x3_S32x128x2_0_0_0) main_arg0
  fn_part1 (F := F) main_arg11 main_v16 main_v17
-- ==== Kernel.lean ====
abbrev S32x128x3 : Shape := ⟨3, ![32, 128, 3]⟩
abbrev S32x128 : Shape := ⟨2, ![32, 128]⟩
abbrev S32x128x3x20x2 : Shape := ⟨5, ![32, 128, 3, 20, 2]⟩
abbrev S32x128x3x20 : Shape := ⟨4, ![32, 128, 3, 20]⟩
abbrev S32x128x20 : Shape := ⟨3, ![32, 128, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S4096x120 : Shape := ⟨2, ![4096, 120]⟩
abbrev S4096x60 : Shape := ⟨2, ![4096, 60]⟩
abbrev S4096x3 : Shape := ⟨2, ![4096, 3]⟩
abbrev S4096x20 : Shape := ⟨2, ![4096, 20]⟩
abbrev S4096x1 : Shape := ⟨2, ![4096, 1]⟩
abbrev S1x256 : Shape := ⟨2, ![1, 256]⟩
abbrev S4096x128 : Shape := ⟨2, ![4096, 128]⟩
abbrev S512x120 : Shape := ⟨2, ![512, 120]⟩
abbrev S512x60 : Shape := ⟨2, ![512, 60]⟩
abbrev S512x3 : Shape := ⟨2, ![512, 3]⟩
abbrev S512x20 : Shape := ⟨2, ![512, 20]⟩
abbrev S512x1 : Shape := ⟨2, ![512, 1]⟩
abbrev S512x128 : Shape := ⟨2, ![512, 128]⟩
abbrev S128x2560 : Shape := ⟨2, ![128, 2560]⟩
abbrev S256x256 : Shape := ⟨2, ![256, 256]⟩
abbrev S512x40 : Shape := ⟨2, ![512, 40]⟩
abbrev S512x2 : Shape := ⟨2, ![512, 2]⟩
abbrev S512x6 : Shape := ⟨2, ![512, 6]⟩
abbrev S512x2560 : Shape := ⟨2, ![512, 2560]⟩
abbrev S512x16 : Shape := ⟨2, ![512, 16]⟩
abbrev S16x128 : Shape := ⟨2, ![16, 128]⟩

abbrev nBuf : Space → Nat
  | .hbm => 46
  | .vmem => 43
  | .smem => 0
  | _ => 0

abbrev bufTy : (tb : Table) → Fin (tcTables nBuf tb) → BufTy
  | .hbm, ⟨0, _⟩ => ⟨S32x128x3, .f32⟩
  | .hbm, ⟨1, _⟩ => ⟨S32x128, .i32⟩
  | .hbm, ⟨2, _⟩ => ⟨S32x128, .i32⟩
  | .hbm, ⟨3, _⟩ => ⟨S32x128, .i32⟩
  | .hbm, ⟨4, _⟩ => ⟨S32x128, .i1⟩
  | .hbm, ⟨5, _⟩ => ⟨S32x128, .f32⟩
  | .hbm, ⟨6, _⟩ => ⟨S32x128x3x20x2, .f32⟩
  | .hbm, ⟨7, _⟩ => ⟨S32x128x3x20x2, .f32⟩
  | .hbm, ⟨8, _⟩ => ⟨S32x128x3x20, .f32⟩
  | .hbm, ⟨9, _⟩ => ⟨S32x128, .f32⟩
  | .hbm, ⟨10, _⟩ => ⟨S32x128x20, .i1⟩
  | .hbm, ⟨11, _⟩ => ⟨S6x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S512x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S3x128, .f32⟩
  | .hbm, ⟨24, _⟩ => ⟨S2x128, .f32⟩
  | .hbm, ⟨25, _⟩ => ⟨S4x128, .f32⟩
  | .hbm, ⟨26, _⟩ => ⟨S1x128, .f32⟩
  | .hbm, ⟨27, _⟩ => ⟨S4096x120, .f32⟩
  | .hbm, ⟨28, _⟩ => ⟨S4096x120, .f32⟩
  | .hbm, ⟨29, _⟩ => ⟨S4096x60, .f32⟩
  | .hbm, ⟨30, _⟩ => ⟨S4096x3, .f32⟩
  | .hbm, ⟨31, _⟩ => ⟨S4096x20, .i1⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S4096x1, .i1⟩
  | .hbm, ⟨36, _⟩ => ⟨S4096x1, .f32⟩
  | .hbm, ⟨37, _⟩ => ⟨S1x128, .f32⟩
  | .hbm, ⟨38, _⟩ => ⟨S1x256, .f32⟩
  | .hbm, ⟨39, _⟩ => ⟨S1x256, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S4096x20, .i32⟩
  | .hbm, ⟨44, _⟩ => ⟨S4096x1, .i32⟩
  | .hbm, ⟨45, _⟩ => ⟨S4096x128, .f32⟩
  | .local _ .vmem, ⟨0, _⟩ => ⟨S512x120, .f32⟩
  | .local _ .vmem, ⟨1, _⟩ => ⟨S512x120, .f32⟩
  | .local _ .vmem, ⟨2, _⟩ => ⟨S512x120, .f32⟩
  | .local _ .vmem, ⟨3, _⟩ => ⟨S512x120, .f32⟩
  | .local _ .vmem, ⟨4, _⟩ => ⟨S512x60, .f32⟩
  | .local _ .vmem, ⟨5, _⟩ => ⟨S512x60, .f32⟩
  | .local _ .vmem, ⟨6, _⟩ => ⟨S512x3, .f32⟩
  | .local _ .vmem, ⟨7, _⟩ => ⟨S512x3, .f32⟩
  | .local _ .vmem, ⟨8, _⟩ => ⟨S512x20, .i32⟩
  | .local _ .vmem, ⟨9, _⟩ => ⟨S512x20, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S512x1, .i32⟩
  | .local _ .vmem, ⟨14, _⟩ => ⟨S512x1, .i32⟩
  | .local _ .vmem, ⟨15, _⟩ => ⟨S512x1, .i32⟩
  | .local _ .vmem, ⟨16, _⟩ => ⟨S512x1, .i32⟩
  | .local _ .vmem, ⟨17, _⟩ => ⟨S512x1, .i32⟩
  | .local _ .vmem, ⟨18, _⟩ => ⟨S512x1, .f32⟩
  | .local _ .vmem, ⟨19, _⟩ => ⟨S512x1, .f32⟩
  | .local _ .vmem, ⟨20, _⟩ => ⟨S6x128, .f32⟩
  | .local _ .vmem, ⟨21, _⟩ => ⟨S1x128, .f32⟩
  | .local _ .vmem, ⟨22, _⟩ => ⟨S128x256, .f32⟩
  | .local _ .vmem, ⟨23, _⟩ => ⟨S1x256, .f32⟩
  | .local _ .vmem, ⟨24, _⟩ => ⟨S512x256, .f32⟩
  | .local _ .vmem, ⟨25, _⟩ => ⟨S1x256, .f32⟩
  | .local _ .vmem, ⟨26, _⟩ => ⟨S256x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S3x128, .f32⟩
  | .local _ .vmem, ⟨33, _⟩ => ⟨S2x128, .f32⟩
  | .local _ .vmem, ⟨34, _⟩ => ⟨S4x128, .f32⟩
  | .local _ .vmem, ⟨35, _⟩ => ⟨S1x128, .f32⟩
  | .local _ .vmem, ⟨36, _⟩ => ⟨S512x128, .f32⟩
  | .local _ .vmem, ⟨37, _⟩ => ⟨S512x128, .f32⟩
  | .local _ .vmem, ⟨38, _⟩ => ⟨S128x2560, .f32⟩
  | .local _ .vmem, ⟨39, _⟩ => ⟨S128x256, .bf16⟩
  | .local _ .vmem, ⟨40, _⟩ => ⟨S256x256, .bf16⟩
  | .local _ .vmem, ⟨41, _⟩ => ⟨S256x256, .bf16⟩
  | .local _ .vmem, ⟨42, _⟩ => ⟨S256x128, .bf16⟩
  | _, _ => ⟨S32x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg26_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem26_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ReferenceIdeal.lean ====
abbrev S32x128x3 : Shape := ⟨3, ![32, 128, 3]⟩
abbrev S32x128 : Shape := ⟨2, ![32, 128]⟩
abbrev S32x128x3x20x2 : Shape := ⟨5, ![32, 128, 3, 20, 2]⟩
abbrev S32x128x3x20 : Shape := ⟨4, ![32, 128, 3, 20]⟩
abbrev S32x128x20 : Shape := ⟨3, ![32, 128, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S32x128x1x20x2 : Shape := ⟨5, ![32, 128, 1, 20, 2]⟩
abbrev S32x128x20x2 : Shape := ⟨4, ![32, 128, 20, 2]⟩
abbrev S32x128x1x20 : Shape := ⟨4, ![32, 128, 1, 20]⟩
abbrev S32x128x2 : Shape := ⟨3, ![32, 128, 2]⟩
abbrev S32x128x1x2 : Shape := ⟨4, ![32, 128, 1, 2]⟩
abbrev S32x128x20x1 : Shape := ⟨4, ![32, 128, 20, 1]⟩
abbrev S32x128x20x6 : Shape := ⟨4, ![32, 128, 20, 6]⟩
abbrev S4096x20 : Shape := ⟨2, ![4096, 20]⟩
abbrev S4096x20x6 : Shape := ⟨3, ![4096, 20, 6]⟩
abbrev S4096x20x1 : Shape := ⟨3, ![4096, 20, 1]⟩
abbrev S4096x20x128 : Shape := ⟨3, ![4096, 20, 128]⟩
abbrev S1x1x128 : Shape := ⟨3, ![1, 1, 128]⟩
abbrev S_ : Shape := ⟨0, ![]⟩
abbrev S4096x20x256 : Shape := ⟨3, ![4096, 20, 256]⟩
abbrev S1x1x256 : Shape := ⟨3, ![1, 1, 256]⟩
abbrev S4096x256 : Shape := ⟨2, ![4096, 256]⟩
abbrev S4096x1x256 : Shape := ⟨3, ![4096, 1, 256]⟩
abbrev S4096x20x512 : Shape := ⟨3, ![4096, 20, 512]⟩
abbrev S4096x128 : Shape := ⟨2, ![4096, 128]⟩
abbrev S32x128x128 : Shape := ⟨3, ![32, 128, 128]⟩
abbrev S32x128x1 : Shape := ⟨3, ![32, 128, 1]⟩
abbrev S1 : Shape := ⟨1, ![1]⟩
abbrev S1x1x1 : Shape := ⟨3, ![1, 1, 1]⟩

abbrev nBuf : Space → Nat
  | .hbm => 178
  | .vmem => 0
  | .smem => 0
  | _ => 0

abbrev hbmTy0_0 (i : Nat) : BufTy := match i % 128 with
  | 0 => ⟨S32x128x3, .f32⟩
  | 1 => ⟨S32x128, .i32⟩
  | 2 => ⟨S32x128, .i32⟩
  | 3 => ⟨S32x128, .i32⟩
  | 4 => ⟨S32x128, .i1⟩
  | 5 => ⟨S32x128, .f32⟩
  | 6 => ⟨S32x128x3x20x2, .f32⟩
  | 7 => ⟨S32x128x3x20x2, .f32⟩
  | 8 => ⟨S32x128x3x20, .f32⟩
  | 9 => ⟨S32x128, .f32⟩
  | 10 => ⟨S32x128x20, .i1⟩
  | 11 => ⟨S6x128, .f32⟩
  | 12 => ⟨S128, .f32⟩
  | 13 => ⟨S128x256, .f32⟩
  | 14 => ⟨S256, .f32⟩
  | 15 => ⟨S512x256, .f32⟩
  | 16 => ⟨S256, .f32⟩
  | 17 => ⟨S256x128, .f32⟩
  | 18 => ⟨S128, .f32⟩
  | 19 => ⟨S1x128, .f32⟩
  | 20 => ⟨S128, .f32⟩
  | 21 => ⟨S128x128, .f32⟩
  | 22 => ⟨S128, .f32⟩
  | 23 => ⟨S3x128, .f32⟩
  | 24 => ⟨S2x128, .f32⟩
  | 25 => ⟨S4x128, .f32⟩
  | 26 => ⟨S1x128, .f32⟩
  | 27 => ⟨S32x128x1x20x2, .f32⟩
  | 28 => ⟨S32x128x20x2, .f32⟩
  | 29 => ⟨S32x128x1x20x2, .f32⟩
  | 30 => ⟨S32x128x20x2, .f32⟩
  | 31 => ⟨S32x128x1x20, .f32⟩
  | 32 => ⟨S32x128x20, .f32⟩
  | 33 => ⟨S32x128x2, .f32⟩
  | 34 => ⟨S32x128x1x2, .f32⟩
  | 35 => ⟨S32x128x20x2, .f32⟩
  | 36 => ⟨S32x128x20x2, .f32⟩
  | 37 => ⟨S32x128x20, .f32⟩
  | 38 => ⟨S32x128x20, .f32⟩
  | 39 => ⟨S32x128x20x1, .f32⟩
  | 40 => ⟨S32x128x20x1, .f32⟩
  | 41 => ⟨S32x128x20x2, .f32⟩
  | 42 => ⟨S32x128x20x6, .f32⟩
  | 43 => ⟨S4096x20, .i1⟩
  | 44 => ⟨S4096x20x6, .f32⟩
  | 45 => ⟨S4096x20x1, .i1⟩
  | 46 => ⟨S4096x20x1, .f32⟩
  | 47 => ⟨S4096x20x128, .f32⟩
  | 48 => ⟨S1x1x128, .f32⟩
  | 49 => ⟨S4096x20x128, .f32⟩
  | 50 => ⟨S4096x20x128, .f32⟩
  | 51 => ⟨S_, .f32⟩
  | 52 => ⟨S4096x20x128, .f32⟩
  | 53 => ⟨S4096x20x128, .f32⟩
  | 54 => ⟨S_, .f32⟩
  | 55 => ⟨S4096x20x128, .f32⟩
  | 56 => ⟨S4096x20x128, .f32⟩
  | 57 => ⟨S4096x20x256, .f32⟩
  | 58 => ⟨S1x1x256, .f32⟩
  | 59 => ⟨S4096x20x256, .f32⟩
  | 60 => ⟨S4096x20x256, .f32⟩
  | 61 => ⟨S4096x20x256, .f32⟩
  | 62 => ⟨S4096x20x256, .f32⟩
  | 63 => ⟨S_, .f32⟩
  | 64 => ⟨S4096x256, .f32⟩
  | 65 => ⟨S4096x1x256, .f32⟩
  | 66 => ⟨S4096x20x256, .f32⟩
  | 67 => ⟨S4096x20x512, .f32⟩
  | 68 => ⟨S4096x20x256, .f32⟩
  | 69 => ⟨S1x1x256, .f32⟩
  | 70 => ⟨S4096x20x256, .f32⟩
  | 71 => ⟨S4096x20x256, .f32⟩
  | 72 => ⟨S_, .f32⟩
  | 73 => ⟨S4096x20x256, .f32⟩
  | 74 => ⟨S4096x20x256, .f32⟩
  | 75 => ⟨S_, .f32⟩
  | 76 => ⟨S4096x20x256, .f32⟩
  | 77 => ⟨S4096x20x256, .f32⟩
  | 78 => ⟨S4096x20x128, .f32⟩
  | 79 => ⟨S1x1x128, .f32⟩
  | 80 => ⟨S4096x20x128, .f32⟩
  | 81 => ⟨S4096x20x128, .f32⟩
  | 82 => ⟨S4096x20x128, .f32⟩
  | 83 => ⟨S4096x20x128, .f32⟩
  | 84 => ⟨S_, .f32⟩
  | 85 => ⟨S4096x128, .f32⟩
  | 86 => ⟨S32x128x128, .f32⟩
  | 87 => ⟨S_, .i32⟩
  | 88 => ⟨S32x128, .i32⟩
  | 89 => ⟨S32x128, .i1⟩
  | 90 => ⟨S_, .i32⟩
  | 91 => ⟨S32x128, .i32⟩
  | 92 => ⟨S32x128, .i32⟩
  | 93 => ⟨S32x128, .i32⟩
  | 94 => ⟨S32x128x1, .i32⟩
  | 95 => ⟨S1, .i32⟩
  | 96 => ⟨S_, .i32⟩
  | 97 => ⟨S32x128x1, .i32⟩
  | 98 => ⟨S32x128x1, .i1⟩
  | 99 => ⟨S1x1x1, .i32⟩
  | 100 => ⟨S32x128x1, .i32⟩
  | 101 => ⟨S32x128x1, .i1⟩
  | 102 => ⟨S32x128x1, .i1⟩
  | 103 => ⟨S_, .i1⟩
  | 104 => ⟨S32x128, .i1⟩
  | 105 => ⟨S32x128x128, .f32⟩
  | 106 => ⟨S32x128x128, .i1⟩
  | 107 => ⟨S_, .f32⟩
  | 108 => ⟨S32x128x128, .f32⟩
  | 109 => ⟨S32x128x128, .f32⟩
  | 110 => ⟨S_, .i32⟩
  | 111 => ⟨S32x128, .i32⟩
  | 112 => ⟨S32x128, .i1⟩
  | 113 => ⟨S_, .i32⟩
  | 114 => ⟨S32x128, .i32⟩
  | 115 => ⟨S32x128, .i32⟩
  | 116 => ⟨S32x128, .i32⟩
  | 117 => ⟨S32x128x1, .i32⟩
  | 118 => ⟨S1, .i32⟩
  | 119 => ⟨S_, .i32⟩
  | 120 => ⟨S32x128x1, .i32⟩
  | 121 => ⟨S32x128x1, .i1⟩
  | 122 => ⟨S1x1x1, .i32⟩
  | 123 => ⟨S32x128x1, .i32⟩
  | 124 => ⟨S32x128x1, .i1⟩
  | 125 => ⟨S32x128x1, .i1⟩
  | 126 => ⟨S_, .i1⟩
  | 127 => ⟨S32x128, .i1⟩
  | _ => ⟨S32x128x3, .f32⟩

abbrev hbmTy0_1 (i : Nat) : BufTy := match i % 128 with
  | 0 => ⟨S32x128x128, .f32⟩
  | 1 => ⟨S32x128x128, .i1⟩
  | 2 => ⟨S_, .f32⟩
  | 3 => ⟨S32x128x128, .f32⟩
  | 4 => ⟨S32x128x128, .f32⟩
  | 5 => ⟨S_, .i32⟩
  | 6 => ⟨S32x128, .i32⟩
  | 7 => ⟨S32x128, .i1⟩
  | 8 => ⟨S_, .i32⟩
  | 9 => ⟨S32x128, .i32⟩
  | 10 => ⟨S32x128, .i32⟩
  | 11 => ⟨S32x128, .i32⟩
  | 12 => ⟨S32x128x1, .i32⟩
  | 13 => ⟨S1, .i32⟩
  | 14 => ⟨S_, .i32⟩
  | 15 => ⟨S32x128x1, .i32⟩
  | 16 => ⟨S32x128x1, .i1⟩
  | 17 => ⟨S1x1x1, .i32⟩
  | 18 => ⟨S32x128x1, .i32⟩
  | 19 => ⟨S32x128x1, .i1⟩
  | 20 => ⟨S32x128x1, .i1⟩
  | 21 => ⟨S_, .i1⟩
  | 22 => ⟨S32x128, .i1⟩
  | 23 => ⟨S32x128x128, .f32⟩
  | 24 => ⟨S32x128x128, .i1⟩
  | 25 => ⟨S_, .f32⟩
  | 26 => ⟨S32x128x128, .f32⟩
  | 27 => ⟨S32x128x128, .f32⟩
  | 28 => ⟨S32x128x1, .f32⟩
  | 29 => ⟨S32x128x128, .f32⟩
  | 30 => ⟨S1x1x128, .f32⟩
  | 31 => ⟨S32x128x128, .f32⟩
  | 32 => ⟨S32x128x128, .f32⟩
  | 33 => ⟨S_, .f32⟩
  | 34 => ⟨S32x128x128, .f32⟩
  | 35 => ⟨S32x128x128, .f32⟩
  | 36 => ⟨S32x128x128, .f32⟩
  | 37 => ⟨S1x1x128, .f32⟩
  | 38 => ⟨S32x128x128, .f32⟩
  | 39 => ⟨S32x128x128, .f32⟩
  | 40 => ⟨S32x128x1, .i1⟩
  | 41 => ⟨S128, .f32⟩
  | 42 => ⟨S32x128x128, .i1⟩
  | 43 => ⟨S32x128x128, .f32⟩
  | 44 => ⟨S32x128x128, .f32⟩
  | 45 => ⟨S32x128x128, .f32⟩
  | 46 => ⟨S32x128x128, .f32⟩
  | 47 => ⟨S32x128x128, .f32⟩
  | 48 => ⟨S32x128x128, .f32⟩
  | 49 => ⟨S4096x128, .f32⟩
  | _ => ⟨S32x128x3, .f32⟩

abbrev hbmTy (i : Nat) : BufTy := match i / 128 with
  | 0 => hbmTy0_0 i
  | 1 => hbmTy0_1 i
  | _ => ⟨S32x128x3, .f32⟩

abbrev bufTy : (tb : Table) → Fin (tcTables nBuf tb) → BufTy
  | .hbm, ⟨i, _⟩ => hbmTy i
  | _, _ => ⟨S32x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_v24 : Ref sig .tc := ⟨.hbm, 52, rfl⟩
abbrev main_v25 : Ref sig .tc := ⟨.hbm, 53, rfl⟩
abbrev main_call0_cst : Ref sig .tc := ⟨.hbm, 54, rfl⟩
abbrev main_call0_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_1 : Ref sig .tc := ⟨.hbm, 72, rfl⟩
abbrev main_v41 : Ref sig .tc := ⟨.hbm, 73, rfl⟩
abbrev main_v42 : Ref sig .tc := ⟨.hbm, 74, rfl⟩
abbrev main_call1_cst : Ref sig .tc := ⟨.hbm, 75, rfl⟩
abbrev main_call1_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_2 : Ref sig .tc := ⟨.hbm, 84, rfl⟩
abbrev main_v50 : Ref sig .tc := ⟨.hbm, 85, rfl⟩
abbrev main_v51 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v52 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v53 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_call5_cst : Ref sig .tc := ⟨.hbm, 161, rfl⟩
abbrev main_call5_v0 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_call6_v0 : Ref sig .tc := ⟨.hbm, 170, rfl⟩
abbrev main_call6_v1 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩

abbrev nD : Nat := 1
abbrev τ : Topo := Topo.v7x

variable {F : FTy → Type} [FloatOps F]
-- ==== Proof.Kernel.RunA.lean ====
/-
  The kernel: the run of the body at the first grid point (taken over from the generated text, with the output window left
  unnamed).
-/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body's triple IN CASE A (`scf.if` 0 taken: points 0): on whole staging memrefs — the inputs' at their contents,
    the FORGOTTEN outputs' (26) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
    intro E K
    simp only [cc0__fused_kernel_eq_skeleton]; unfold cc0__fused_kernel_skel
    simp only [k0_part18_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _, _; isplitr; swap; · iexact H26
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.RunB.lean ====
/-
  The kernel: the run of the body at every grid point but the first (taken over from the generated text).
-/
module

public import proofs.«01_k».proof.Proof.Kernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body's triple IN CASE B (`scf.if` 0 not taken: points 1, 2, … 7: 7 of 8): on whole staging memrefs — the inputs' at their contents,
    the FORGOTTEN outputs' (26) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
    intro E K
    simp only [cc0__fused_kernel_eq_skeleton]; unfold cc0__fused_kernel_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _, _; isplitr; swap; · iexact H26
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.Frame.lean ====
/-
  The kernel: the body's obligation, the run and the frame claim (the generated text, over this
  directory's own runs of the two cases).
-/
module

public import proofs.«01_k».proof.Proof.Kernel.RunB
public import Idealize.ShloMosaic.Lib.Claim

@[expose] public section

set_option maxRecDepth 16384
set_option maxHeartbeats 8000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame from a run -/

set_option maxHeartbeats 1620000 in
/-- The frame from a run, for relational proof data: if the arrays of the data are the contents the region is entered with (`hA`),
    and the run ends as `RDat.FramePost` says, then every argument array ends as it began. A staged input is read by
    `RDat.FramePost.arr_in`, an array that no window stages by the second clause of the post. -/
theorem frame_of_relational (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 10 rfl).trans ((hA c 10).trans (V_main_arg11 m c)),
      ((h c).2 main_arg12 (Pipeline.mem_restRefs_of main_arg12 (by decide) (by decide))).trans (V_main_arg12 m c),
      (Pipeline.RDat.FramePost.arr_in h c 12 rfl).trans ((hA c 12).trans (V_main_arg13 m c)),
      ((h c).2 main_arg14 (Pipeline.mem_restRefs_of main_arg14 (by decide) (by decide))).trans (V_main_arg14 m c),
      (Pipeline.RDat.FramePost.arr_in h c 14 rfl).trans ((hA c 14).trans (V_main_arg15 m c)),
      ((h c).2 main_arg16 (Pipeline.mem_restRefs_of main_arg16 (by decide) (by decide))).trans (V_main_arg16 m c),
      (Pipeline.RDat.FramePost.arr_in h c 16 rfl).trans ((hA c 16).trans (V_main_arg17 m c)),
      ((h c).2 main_arg18 (Pipeline.mem_restRefs_of main_arg18 (by decide) (by decide))).trans (V_main_arg18 m c),
      (Pipeline.RDat.FramePost.arr_in h c 18 rfl).trans ((hA c 18).trans (V_main_arg19 m c)),
      ((h c).2 main_arg20 (Pipeline.mem_restRefs_of main_arg20 (by decide) (by decide))).trans (V_main_arg20 m c),
      (Pipeline.RDat.FramePost.arr_in h c 20 rfl).trans ((hA c 20).trans (V_main_arg21 m c)),
      ((h c).2 main_arg22 (Pipeline.mem_restRefs_of main_arg22 (by decide) (by decide))).trans (V_main_arg22 m c),
      (Pipeline.RDat.FramePost.arr_in h c 22 rfl).trans ((hA c 22).trans (V_main_arg23 m c)),
      (Pipeline.RDat.FramePost.arr_in h c 23 rfl).trans ((hA c 23).trans (V_main_arg24 m c)),
      (Pipeline.RDat.FramePost.arr_in h c 24 rfl).trans ((hA c 24).trans (V_main_arg25 m c)),
      (Pipeline.RDat.FramePost.arr_in h c 25 rfl).trans ((hA c 25).trans (V_main_arg26 m c))⟩) h

/-! ## The pipeline's proof data -/

/-- The output windows this certificate FORGETS (26): nothing reads what the kernel leaves in them, so nothing
    of it is named (Lib/Pipeline/Dat.lean `Dat.toRForget`). -/
def forgets0 : Fin 27 → Bool := fun w => w.val == 26

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, H18, H19, H20, H21, H22, H23, H24, H25, H26, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, H18, H19, H20, H21, H22, H23, H24, H25, H26, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 26) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of_relational m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.Kernel.Gen

end
-- ==== Proof.KernelIdeal.RunB.lean ====
/-
  The idealised kernel: the run of the body at every grid point but the first (taken over from the generated text).
-/
module

public import proofs.«01_k».proof.Proof.Gen.KernelIdeal.Frame.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) :
    Σ' (L26 : List (View.Piece (Elt F) S512x128 .f32)), Σ' (LS0 : List (View.Piece (Elt F) S128x2560 .f32)), Σ' (LS1 : List (View.Piece (Elt F) S128x256 .bf16)), Σ' (LS2 : List (View.Piece (Elt F) S256x256 .bf16)), Σ' (LS3 : List (View.Piece (Elt F) S256x256 .bf16)), { LS4 : List (View.Piece (Elt F) S256x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ owns (c : Thread nD τ) arg28 fullShare xs0 ∗ owns (c : Thread nD τ) arg29 fullShare xs1 ∗ owns (c : Thread nD τ) arg30 fullShare xs2 ∗ owns (c : Thread nD τ) arg31 fullShare xs3 ∗ owns (c : Thread nD τ) arg32 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ owns (c : Thread nD τ) arg28 fullShare xs0 ∗ owns (c : Thread nD τ) arg29 fullShare xs1 ∗ owns (c : Thread nD τ) arg30 fullShare xs2 ∗ owns (c : Thread nD τ) arg31 fullShare xs3 ∗ owns (c : Thread nD τ) arg32 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, [], [], [], [], [], fun E K => ?run⟩
  case run =>
    simp only [cc0__fused_kernel_eq_skeleton]; unfold cc0__fused_kernel_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg28.eq_unread hfs0; obtain rfl := harg29.eq_unread hfs1; obtain rfl := harg30.eq_unread hfs2; obtain rfl := harg31.eq_unread hfs3; obtain rfl := harg32.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [HS0]
    · iexists _; isplitr; · ipureintro; exact harg28.read_unread _
      iexact HS0
    isplitl [HS1]
    · iexists _; isplitr; · ipureintro; exact harg29.read_unread _
      iexact HS1
    isplitl [HS2]
    · iexists _; isplitr; · ipureintro; exact harg30.read_unread _
      iexact HS2
    isplitl [HS3]
    · iexists _; isplitr; · ipureintro; exact harg31.read_unread _
      iexact HS3
    iexists _; isplitr; · ipureintro; exact harg32.read_unread _
    iexact HS4

end Cert.KernelIdeal.Gen

end
-- ==== Proof.KernelIdeal.Outs.lean ====
/-
  The idealised kernel: what each case of the body leaves in the output block and in the carried scratch, and what
  they hold after each grid point (the generated text, in a module of its own).
-/
module

public import proofs.«01_k».proof.Proof.KernelIdeal.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 26 tile its block (1 store of `S512x128`, checked by the kernel's evaluation: Lib/Ring.lean `Piece.tiledL`, linear in the pieces, through a loop's `@[irreducible]` trip theorem too), so they cover it. -/
theorem cover0_A_26 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).1 S512x128.size (by sl_kernel_rfl) y

/-- What case A leaves in output 26's staging buffer: its pieces read back over junk. -/
def out0_A_26 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S512x128 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).1)

/-- Case A's pieces for scratch `arg28`, which the kernel carries between points, cover it: one of them a store of the WHOLE buffer (Lib/Ring.lean `sl_whole_mem`). -/
theorem scover0_A_0 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S128x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.1 (by sl_whole_mem) y

/-- What case A leaves in scratch `arg28`: its pieces read back over junk. -/
def sout0_A_0 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S128x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.1)

/-- Case A's pieces for scratch `arg29`, which the kernel carries between points, cover it: 1 piece of `S128x256` tiling it (Lib/Ring.lean `Piece.tiledL`). -/
theorem scover0_A_1 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.1 S128x256.size (by sl_kernel_rfl) y

/-- What case A leaves in scratch `arg29`: its pieces read back over junk. -/
def sout0_A_1 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S128x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.1)

/-- Case A's pieces for scratch `arg30`, which the kernel carries between points, cover it: 1 piece of `S256x256` tiling it (Lib/Ring.lean `Piece.tiledL`). -/
theorem scover0_A_2 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.1 S256x256.size (by sl_kernel_rfl) y

/-- What case A leaves in scratch `arg30`: its pieces read back over junk. -/
def sout0_A_2 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S256x256 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.1)

/-- Case A's pieces for scratch `arg31`, which the kernel carries between points, cover it: 1 piece of `S256x256` tiling it (Lib/Ring.lean `Piece.tiledL`). -/
theorem scover0_A_3 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.1 S256x256.size (by sl_kernel_rfl) y

/-- What case A leaves in scratch `arg31`: its pieces read back over junk. -/
def sout0_A_3 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S256x256 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.1)

/-- Case A's pieces for scratch `arg32`, which the kernel carries between points, cover it: 1 piece of `S256x128` tiling it (Lib/Ring.lean `Piece.tiledL`). -/
theorem scover0_A_4 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.2.1 S256x128.size (by sl_kernel_rfl) y

/-- What case A leaves in scratch `arg32`: its pieces read back over junk. -/
def sout0_A_4 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) : Vec F S256x128 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25).2.2.2.2.2.1)

/-- Case B's pieces for output 26 tile its block (1 store of `S512x128`, checked by the kernel's evaluation: Lib/Ring.lean `Piece.tiledL`, linear in the pieces, through a loop's `@[irreducible]` trip theorem too), so they cover it. -/
theorem cover0_B_26 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25 xs0 xs1 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25 xs0 xs1 xs2 xs3 xs4).1 S512x128.size (by sl_kernel_rfl) y

/-- What case B leaves in output 26's staging buffer: its pieces read back over junk. -/
def out0_B_26 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S512x128 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25 xs0 xs1 xs2 xs3 xs4).1)

/-- Case B stores nothing into scratch `arg28`: it holds what the point before left. -/
def sout0_B_0 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S128x2560 .f32 := xs0

/-- Case B stores nothing into scratch `arg29`: it holds what the point before left. -/
def sout0_B_1 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S128x256 .bf16 := xs1

/-- Case B stores nothing into scratch `arg30`: it holds what the point before left. -/
def sout0_B_2 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S256x256 .bf16 := xs2

/-- Case B stores nothing into scratch `arg31`: it holds what the point before left. -/
def sout0_B_3 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S256x256 .bf16 := xs3

/-- Case B stores nothing into scratch `arg32`: it holds what the point before left. -/
def sout0_B_4 (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole) (hc0 : ¬cond0_0 i)
    (x0 : Vec F S512x120 .f32) (x1 : Vec F S512x120 .f32) (x2 : Vec F S512x60 .f32) (x3 : Vec F S512x3 .f32) (x4 : Vec F S512x20 .i32) (x5 : Vec F S512x1 .i32) (x6 : Vec F S512x1 .i32) (x7 : Vec F S512x1 .i32) (x8 : Vec F S512x1 .i32) (x9 : Vec F S512x1 .f32) (x10 : Vec F S6x128 .f32) (x11 : Vec F S1x128 .f32) (x12 : Vec F S128x256 .f32) (x13 : Vec F S1x256 .f32) (x14 : Vec F S512x256 .f32) (x15 : Vec F S1x256 .f32) (x16 : Vec F S256x128 .f32) (x17 : Vec F S1x128 .f32) (x18 : Vec F S1x128 .f32) (x19 : Vec F S1x128 .f32) (x20 : Vec F S128x128 .f32) (x21 : Vec F S1x128 .f32) (x22 : Vec F S3x128 .f32) (x23 : Vec F S2x128 .f32) (x24 : Vec F S4x128 .f32) (x25 : Vec F S1x128 .f32) (xs0 : Vec F S128x2560 .f32) (xs1 : Vec F S128x256 .bf16) (xs2 : Vec F S256x256 .bf16) (xs3 : Vec F S256x256 .bf16) (xs4 : Vec F S256x128 .bf16) : Vec F S256x128 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x128 .f32 × Vec F S128x2560 .f32 × Vec F S128x256 .bf16 × Vec F S256x256 .bf16 × Vec F S256x256 .bf16 × Vec F S256x128 .bf16
  | 0, hn => (out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩))
  | n + 1, hn =>
    if h0 : (n + 1) % 8 = 0 then
      (out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩))
    else
      (out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 8 = 0) :
    outsAt0 m c t.val t.isLt = (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

end Cert.KernelIdeal.Gen

end
-- ==== Proof.KernelIdeal.Frame.lean ====
/-
  The idealised kernel: the proof data of the pipeline, the body's obligation, the run and the frame claim (the
  generated text, over this directory's own run of case B).
-/
module

public import proofs.«01_k».proof.Proof.KernelIdeal.Outs
public import Idealize.ShloMosaic.Lib.Claim

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t.val t.isLt).1
    | ⟨_ + 27, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold out0_A_26 sout0_A_0 sout0_A_1 sout0_A_2 sout0_A_3 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, ⟨%e26, H26⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      unfold owns; iexists _; isplitr
      swap; · iexact H26
      ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_26 sout0_B_0 sout0_B_1 sout0_B_2 sout0_B_3 sout0_B_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, ⟨%e26, H26⟩, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      unfold owns; iexists _; isplitr
      swap; · iexact H26
      ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
/-
  The idealised kernel: the output array after the run, block by block, as the fold over the grid of what the body
  leaves (the generated text, over this directory's own frame).
-/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 26's array: the run's contents for that window after the body (`Gen.outsAt0`: its component 0), read through the window's block. -/
theorem flushed26 (c : Dev nD) (t : Fin cfg0.N) :
    (dats m 0 c).flushed 26 t = (cfg0.win 26).cut (grid0.coords t) ((outsAt0 m c t.val t.isLt).1) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — by the frame's rewriting lemma for the case. -/
theorem flushed26_A (c : Dev nD) (t : Fin cfg0.N) (h0 : t.val % 8 = 0) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed26, outsAt0_A m c t h0]

/-- … so at a point where case B runs, what its write-back would write is that case's NAMED TERM for the window (`Gen.out0_B_26`: the pieces
    its run found, read back) at the point's memrefs and input blocks, and for an output the case reads back what the point before left (`Gen.outsAt0` at `t - 1`) — by the frame's rewriting lemma for the case. -/
theorem flushed26_B (c : Dev nD) (t : Fin cfg0.N) (h0 : ¬t.val % 8 = 0) :
    (dats m 0 c).flushed 26 t = (cfg0.win 26).cut (grid0.coords t) (out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed26, outsAt0_B m c t h0]

/-- The index map sends distinct grid points to distinct block indices (decided over the 8 points). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S4096x128.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v18) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 10 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: input window 12 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: input window 14 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 14).trans (((dats m 0 c).arrAt_in 14 rfl _).trans ((A_eq m c 14).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: input window 16 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 16).trans (((dats m 0 c).arrAt_in 16 rfl _).trans ((A_eq m c 16).trans (V_main_arg17 m c)))

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: input window 18 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 18).trans (((dats m 0 c).arrAt_in 18 rfl _).trans ((A_eq m c 18).trans (V_main_arg19 m c)))

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: input window 20 stages it and never writes it back. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).1 20).trans (((dats m 0 c).arrAt_in 20 rfl _).trans ((A_eq m c 20).trans (V_main_arg21 m c)))

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: input window 22 stages it and never writes it back. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).1 22).trans (((dats m 0 c).arrAt_in 22 rfl _).trans ((A_eq m c 22).trans (V_main_arg23 m c)))

/-- After the frame run, argument `main_arg24` is as launched: input window 23 stages it and never writes it back. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 23).trans (((dats m 0 c).arrAt_in 23 rfl _).trans ((A_eq m c 23).trans (V_main_arg24 m c)))

/-- After the frame run, argument `main_arg25` is as launched: input window 24 stages it and never writes it back. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).1 24).trans (((dats m 0 c).arrAt_in 24 rfl _).trans ((A_eq m c 24).trans (V_main_arg25 m c)))

/-- After the frame run, argument `main_arg26` is as launched: input window 25 stages it and never writes it back. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).1 25).trans (((dats m 0 c).arrAt_in 25 rfl _).trans ((A_eq m c 25).trans (V_main_arg26 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v18) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S128x2560 .f32) : Vec F S128x2560 .f32 :=
  if h0 : n % 8 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.1) 8 (fun n h => scAt0_0 m c n h (VS0_0.read (Elt F) VS0_0.junk)) (scAt0_0 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S128x256 .bf16) : Vec F S128x256 .bf16 :=
  if h0 : n % 8 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 1 HOLDS after point `t`: the fold of its run up to `t`, from the reset at the run's first point
    `8·(t / 8)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (8 * (t.val / 8)) (t.val % 8)
      (by have h1 := t.isLt; have h2 := Nat.div_add_mod t.val 8; omega) :=
  Pipeline.eq_accAt_of_mod (fun n h => (outsAt0 m c n h).2.2.1) 8 (fun n h => scAt0_1 m c n h (VS0_1.read (Elt F) VS0_1.junk)) (scAt0_1 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S256x256 .bf16) : Vec F S256x256 .bf16 :=
  if h0 : n % 8 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 2 HOLDS after point `t`: the fold of its run up to `t`, from the reset at the run's first point
    `8·(t / 8)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.1 = Pipeline.accAt (fun n h => scAt0_2 m c n h (VS0_2.read (Elt F) VS0_2.junk)) (scAt0_2 m c) (8 * (t.val / 8)) (t.val % 8)
      (by have h1 := t.isLt; have h2 := Nat.div_add_mod t.val 8; omega) :=
  Pipeline.eq_accAt_of_mod (fun n h => (outsAt0 m c n h).2.2.2.1) 8 (fun n h => scAt0_2 m c n h (VS0_2.read (Elt F) VS0_2.junk)) (scAt0_2 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S256x256 .bf16) : Vec F S256x256 .bf16 :=
  if h0 : n % 8 = 0 then
    sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N))
  else
    sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2

/-- WHAT CARRIED SCRATCH 3 HOLDS after point `t`: the fold of its run up to `t`, from the reset at the run's first point
    `8·(t / 8)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2.1 = Pipeline.accAt (fun n h => scAt0_3 m c n h (VS0_3.read (Elt F) VS0_3.junk)) (scAt0_3 m c) (8 * (t.val / 8)) (t.val % 8)
      (by have h1 := t.isLt; have h2 := Nat.div_add_mod t.val 8; omega) :=
  Pipeline.eq_accAt_of_mod (fun n h => (outsAt0 m c n h).2.2.2.2.1) 8 (fun n h => scAt0_3 m c n h (VS0_3.read (Elt F) VS0_3.junk)) (scAt0_3 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_3; rw [dif_pos h0] <;> try rfl) | (rw [outsAt0_B m c ⟨n, h⟩ h0]; dsimp only; unfold scAt0_3; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_3; rw [dif_pos h0] <;> try rfl) | (rw [outsAt0_B m c ⟨n + 1, h⟩ h0]; dsimp only; unfold scAt0_3; rw [dif_neg h0] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.1 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the first point
    stores the scratch whole without reading what it held, and `acc` does not enter there (nor where no point meets the
    conditions: `acc`, never read). -/
def scAt0_4 (c : Dev nD) (n : ℕ) (hb : n < cfg0.N) (acc : Vec F S256x128 .bf16) : Vec F S256x128 .bf16 :=
  if h0 : n % 8 = 0 then
    sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N))
  else
    sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc

/-- WHAT CARRIED SCRATCH 4 HOLDS after point `t`: the fold of its run up to `t`, from the reset at the run's first point
    `8·(t / 8)` (Lib/Pipeline/Value.lean `Pipeline.eq_accAt_of_mod`, by the frame's `outsAt0_κ`; without enumerating the points). -/
theorem soutsAt0_4_eq (c : Dev nD) (t : Fin cfg0.N) :
    (outsAt0 m c t.val t.isLt).2.2.2.2.2 = Pipeline.accAt (fun n h => scAt0_4 m c n h (VS0_4.read (Elt F) VS0_4.junk)) (scAt0_4 m c) (8 * (t.val / 8)) (t.val % 8)
      (by have h1 := t.isLt; have h2 := Nat.div_add_mod t.val 8; omega) :=
  Pipeline.eq_accAt_of_mod (fun n h => (outsAt0 m c n h).2.2.2.2.2) 8 (fun n h => scAt0_4 m c n h (VS0_4.read (Elt F) VS0_4.junk)) (scAt0_4 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_4; rw [dif_pos h0] <;> try rfl) | (rw [outsAt0_B m c ⟨n, h⟩ h0]; dsimp only; unfold scAt0_4; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_4; rw [dif_pos h0] <;> try rfl) | (rw [outsAt0_B m c ⟨n + 1, h⟩ h0]; dsimp only; unfold scAt0_4; rw [dif_neg h0] <;> try rfl))
    (by decide) t.val t.isLt _

/-- One run spans the grid (the only reset is at point 0): after point `n` the scratch is the fold from 0 to `n`. -/
theorem soutsAt0_4_sweep (c : Dev nD) (n : ℕ) (hn : n < cfg0.N) :
    (outsAt0 m c n hn).2.2.2.2.2 = Pipeline.accAt (fun n h => scAt0_4 m c n h (VS0_4.read (Elt F) VS0_4.junk)) (scAt0_4 m c) 0 n (by omega) := by
  have e := soutsAt0_4_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x128 .f32 × Vec F S128x2560 .f32 × Vec F S128x256 .bf16 × Vec F S256x256 .bf16 × Vec F S256x256 .bf16 × Vec F S256x128 .bf16 :=
  ((VO0_26.read (Elt F) VO0_26.junk, VS0_0.read (Elt F) VS0_0.junk, VS0_1.read (Elt F) VS0_1.junk, VS0_2.read (Elt F) VS0_2.junk, VS0_3.read (Elt F) VS0_3.junk, VS0_4.read (Elt F) VS0_4.junk) : Vec F S512x128 .f32 × Vec F S128x2560 .f32 × Vec F S128x256 .bf16 × Vec F S256x256 .bf16 × Vec F S256x256 .bf16 × Vec F S256x128 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x128 .f32 × Vec F S128x2560 .f32 × Vec F S128x256 .bf16 × Vec F S256x256 .bf16 × Vec F S256x256 .bf16 × Vec F S256x128 .bf16) : Vec F S512x128 .f32 × Vec F S128x2560 .f32 × Vec F S128x256 .bf16 × Vec F S256x256 .bf16 × Vec F S256x256 .bf16 × Vec F S256x128 .bf16 :=
  if h0 : n % 8 = 0 then
    (out0_A_26 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)), sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)))
  else
    (out0_B_26 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2, sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) (ms0_24 (⟨n, hb⟩ : Fin cfg0.N)) (hs0_24 (⟨n, hb⟩ : Fin cfg0.N)) (ms0_25 (⟨n, hb⟩ : Fin cfg0.N)) (hs0_25 (⟨n, hb⟩ : Fin cfg0.N)) (ms0_26 (⟨n, hb⟩ : Fin cfg0.N)) (hs0_26 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (iblk m c 22 (⟨n, hb⟩ : Fin cfg0.N)) (iblk m c 23 (⟨n, hb⟩ : Fin cfg0.N)) (iblk m c 24 (⟨n, hb⟩ : Fin cfg0.N)) (iblk m c 25 (⟨n, hb⟩ : Fin cfg0.N)) acc.2.1 acc.2.2.1 acc.2.2.2.1 acc.2.2.2.2.1 acc.2.2.2.2.2)

/-- `stAt0` at a point of case A: that case's contents. -/
theorem stAt0_A (c : Dev nD) (t : Fin cfg0.N) (acc : Vec F S512x128 .f32 × Vec F S128x2560 .f32 × Vec F S128x256 .bf16 × Vec F S256x256 .bf16 × Vec F S256x256 .bf16 × Vec F S256x128 .bf16) (h0 : t.val % 8 = 0) :
    stAt0 m c t.val t.isLt acc = (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) :=
  (dif_pos h0).trans rfl

/-- `stAt0` at a point of case B: that case's contents, over `acc`. -/
theorem stAt0_B (c : Dev nD) (t : Fin cfg0.N) (acc : Vec F S512x128 .f32 × Vec F S128x2560 .f32 × Vec F S128x256 .bf16 × Vec F S256x256 .bf16 × Vec F S256x256 .bf16 × Vec F S256x128 .bf16) (h0 : ¬t.val % 8 = 0) :
    stAt0 m c t.val t.isLt acc = (out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) acc.2.1 acc.2.2.1 acc.2.2.2.1 acc.2.2.2.2.1 acc.2.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 8 from N_0)
  have e := Pipeline.eq_accAt_of_mod (fun n h => outsAt0 m c n h) 8 (fun n h => stAt0 m c n h junk0) (stAt0 m c)
    (fun n h _ => by
      have hN := lt_of_lt_of_eq h (show cfg0.N = 8 from N_0)
      obtain rfl : n = 0 := by omega
      exact outsAt0_zero m c h)
    (fun n h _ => outsAt0_succ m c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 26 -/

/-- The block of the array that holds index `i`, numbered in the order the points write the blocks back (one per point),
    `i`'s place in it, and the point that writes it back. -/
abbrev run26Of (i : S4096x128.Idx) : ℕ := 1 * ((i 0).val / 512 - 0) + 1 * ((i 1).val / 128 - 0)
set_option backward.proofsInPublic true in
abbrev loc26Of (i : S4096x128.Idx) : S512x128.Idx := fun a => match a with
  | ⟨0, _⟩ => ⟨(i 0).val % 512, Nat.mod_lt _ (by decide)⟩
  | ⟨1, _⟩ => ⟨(i 1).val % 128, Nat.mod_lt _ (by decide)⟩
abbrev pt26Of (i : S4096x128.Idx) : ℕ := run26Of i

/-- WHAT THE ARRAY ENDS HOLDING at index `i` inside the box the flushing blocks fill: output 26's component of the carried
    state's fold at the point that writes `i`'s block back, at `i`'s place in the block. `G26` states the array's contents
    only inside the box. -/
def G26 (c : Dev nD) : Buf (Elt F) ((c : Thread nD τ).loc main_v18) := fun i =>
  if h : pt26Of i < cfg0.N then
    (Pipeline.accAt (fun n h => stAt0 m c n h junk0) (stAt0 m c) 0 (pt26Of i) (by omega)).1 (loc26Of i)
  else V m c (Pipeline.arrRef spec0 26) i

/-- The printed index map, decided over the grid: output window 26's block indices stay in the box, and the block number
    read off them is the point's (`t`). -/
theorem idx_facts26 : ∀ t : Fin cfg0.N, 0 ≤ win0_26.index t (0 : Fin 2) ∧ win0_26.index t (0 : Fin 2) ≤ 7
    ∧ 0 ≤ win0_26.index t (1 : Fin 2) ∧ win0_26.index t (1 : Fin 2) ≤ 0
    ∧ 1 * (win0_26.index t (0 : Fin 2) - 0) + 1 * (win0_26.index t (1 : Fin 2) - 0) = t.val :=
  (by decide +kernel : ∀ t : Fin grid0.N, _)

/-- Every block of the box is SOME flushing point's: `onto26Pt`, the point that writes back the block at place `q` of the box. -/
abbrev onto26Pt (q0 : Fin 8) (q1 : Fin 1) : Fin grid0.N :=
  ⟨1 * q0.val + 1 * q1.val, lt_of_lt_of_eq (by omega) N_0.symm⟩
theorem idx_onto26 : ∀ (q0 : Fin 8) (q1 : Fin 1), ∃ t : Fin cfg0.N, (cfg0.win 26).flush t = true ∧ win0_26.index t = ![q0.val + 0, q1.val + 0] :=
  fun q0 q1 => ⟨onto26Pt q0 q1, (by decide +kernel : ∀ (q0 : Fin 8) (q1 : Fin 1), win0_26.flush (onto26Pt q0 q1) = true ∧ win0_26.index (onto26Pt q0 q1) = ![q0.val + 0, q1.val + 0]) q0 q1⟩

/-- WHAT A FLUSHING POINT `t` WRITES BACK is block `t` of `G26`: output 26's component of the fold up to `t`. -/
theorem flushed26_eq (c : Dev nD) (t : Fin cfg0.N) (hf : (cfg0.win 26).flush t = true) :
    (dats m 0 c).flushed 26 t = ((cfg0.win 26).blk t).view.read (Elt F) (G26 m c) := by
  show (cfg0.win 26).cut (grid0.coords t) ((dats m 0 c).after 26 t) = _
  rw [after0_26, outsAt0_sweep]
  obtain ⟨e0, e1, e2⟩ := idx_facts26 t
  funext y
  have hy0 : (y 0).val < 512 := (y 0).isLt
  have hy1 : (y 1).val < 128 := (y 1).isLt
  have hb0 : (((cfg0.win 26).blk t).view.emb y 0).val = win0_26.index t (0 : Fin 2) * 512 + 1 * (y 0).val := rfl
  have hb1 : (((cfg0.win 26).blk t).view.emb y 1).val = win0_26.index t (1 : Fin 2) * 128 + 1 * (y 1).val := rfl
  have hr : run26Of (((cfg0.win 26).blk t).view.emb y) = t.val := by
    show 1 * ((((cfg0.win 26).blk t).view.emb y 0).val / 512 - 0) + 1 * ((((cfg0.win 26).blk t).view.emb y 1).val / 128 - 0) = _
    rw [hb0, hb1]
    rw [show (win0_26.index t (0 : Fin 2) * 512 + 1 * (y 0).val) / 512 = win0_26.index t (0 : Fin 2) from by omega]; rw [show (win0_26.index t (1 : Fin 2) * 128 + 1 * (y 1).val) / 128 = win0_26.index t (1 : Fin 2) from by omega]
    omega
  have hl : loc26Of (((cfg0.win 26).blk t).view.emb y) = (cfg0.win 26).xinj (grid0.coords t) y := by
    funext a; apply Fin.ext
    match a with
    | ⟨0, _⟩ => show (((cfg0.win 26).blk t).view.emb y 0).val % 512 = (y 0).val; rw [hb0]; omega
    | ⟨1, _⟩ => show (((cfg0.win 26).blk t).view.emb y 1).val % 128 = (y 1).val; rw [hb1]; omega
  have hp : pt26Of (((cfg0.win 26).blk t).view.emb y) = t.val := by
    exact hr
  show (Pipeline.accAt (fun n h => stAt0 m c n h junk0) (stAt0 m c) 0 t.val _).1 ((cfg0.win 26).xinj (grid0.coords t) y) = G26 m c (((cfg0.win 26).blk t).view.emb y)
  unfold G26
  rw [dif_pos (by rw [hp]; exact t.isLt), hl, fold0_congr m c _ _ _ _ hp.symm]

/-- An index of the array is in point `t`'s block iff each coordinate is in the block's range on its axis. -/
theorem mem_blk26 (t : Fin cfg0.N) (i : S4096x128.Idx) :
    i ∈ ((cfg0.win 26).blk t).view.set ↔ ∀ a : Fin 2, win0_26.index t a * S512x128.size a ≤ (i a).val ∧ (i a).val < win0_26.index t a * S512x128.size a + S512x128.size a := by
  show i ∈ ((View.whole main_v18).slice (win0_26.rect t)).set ↔ _
  rw [View.set_slice_whole, Rect.mem_set_unit]
  exact Iff.rfl

/-- THE COVERED INDICES: in some flushing point's block iff inside the box those blocks fill. -/
theorem covered_iff26 (i : S4096x128.Idx) :
    (∃ t : Fin cfg0.N, (cfg0.win 26).flush t = true ∧ i ∈ ((cfg0.win 26).blk t).view.set) ↔ 0 ≤ (i 0).val ∧ (i 0).val < 4096 ∧ 0 ≤ (i 1).val ∧ (i 1).val < 128 := by
  constructor
  · rintro ⟨t, -, hi⟩
    rw [mem_blk26] at hi
    have b0 : win0_26.index t (0 : Fin 2) * 512 ≤ (i 0).val ∧ (i 0).val < win0_26.index t (0 : Fin 2) * 512 + 512 := hi 0
    have b1 : win0_26.index t (1 : Fin 2) * 128 ≤ (i 1).val ∧ (i 1).val < win0_26.index t (1 : Fin 2) * 128 + 128 := hi 1
    obtain ⟨e0, e1, e2⟩ := idx_facts26 t
    omega
  · intro h
    have hi0 : (i 0).val < 4096 := (i 0).isLt
    have hi1 : (i 1).val < 128 := (i 1).isLt
    obtain ⟨t, hft, ht⟩ := idx_onto26 ⟨(i 0).val / 512 - 0, by omega⟩ ⟨(i 1).val / 128 - 0, by omega⟩
    have q0 : win0_26.index t (0 : Fin 2) = (i 0).val / 512 - 0 + 0 := congrFun ht 0
    have q1 : win0_26.index t (1 : Fin 2) = (i 1).val / 128 - 0 + 0 := congrFun ht 1
    refine ⟨t, hft, ?_⟩
    rw [mem_blk26]
    intro a
    match a with
    | ⟨0, _⟩ => show win0_26.index t (0 : Fin 2) * 512 ≤ (i 0).val ∧ (i 0).val < win0_26.index t (0 : Fin 2) * 512 + 512; omega
    | ⟨1, _⟩ => show win0_26.index t (1 : Fin 2) * 128 ≤ (i 1).val ∧ (i 1).val < win0_26.index t (1 : Fin 2) * 128 + 128; omega

/-- THE ARRAY after the run: `G26` (the flushing blocks tile it). -/
theorem final26 (c : Dev nD) : (dats m 0 c).arrAt 26 cfg0.N = G26 m c :=
  (dats m 0 c).arrAt_eq_of_cover 26 _ (fun t hf => flushed26_eq m c t hf) (fun i => (covered_iff26 i).2 (by
    have h0 : (i 0).val < 4096 := (i 0).isLt; have h1 : (i 1).val < 128 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v18) = G26 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(post26 m r h c).trans (final26 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

end Cert.KernelIdeal.Value

end
-- ==== Proof.Pre.lean ====
/-
  The precondition, opened: the class numbers are below the heights of their tables, and the centres' two coordinates and
  the first two weight rows are finite.
-/
module

public import proofs.«01_k».proof.Pre_drawn
public import Idealize.ShloMosaic.PureOps.Ideal
public import Idealize.ShloMosaic.Lib.Pointwise
public import Idealize.ShloMosaic.Lib.ReduceAll

@[expose] public section

set_option maxHeartbeats 1000000

noncomputable section

namespace Cert.Drawn

open Cert.Pre_drawn Cert.Pre_drawn.Facts Idealize.ShloMosaic Idealize.ShloMosaic.TcCoe Idealize.ShloMosaic.Tactic

/-- The precondition's own side conditions. -/
theorem facts : Cert.Pre_drawn.Facts := by
  constructor <;> decide

instance : Subsingleton S_.Idx := ⟨fun i j => funext fun a => a.elim0⟩

/-- An extended real whose absolute value is below the top is finite. -/
theorem finite_of_abs (x : EReal) (h : Ideal.cmp .olt (max x (-x)) (Ideal.ofBits .f32 0x7F800000#32) = 1#1) : x ≠ ⊤ ∧ x ≠ ⊥ := by
  have ht : Ideal.ofBits .f32 0x7F800000#32 = (⊤ : EReal) := by
    simp [Ideal.ofBits, Ideal.ieee, -EReal.coe_mul]
  rw [ht] at h
  constructor
  · rintro rfl
    simp [Ideal.cmp] at h
  · rintro rfl
    simp [Ideal.cmp] at h

/-- A signed number at least 0 and below `k` is below `k` as an unsigned one. -/
theorem class_lt (x y : BitVec 32) (h0 : IntOp.cmpi .sge x 0#32 = 1#1) (h1 : IntOp.cmpi .slt x y = 1#1) (hy : y.toInt = y.toNat) :
    x.toNat < y.toNat := by
  rw [IntOp.cmpi_sge] at h0
  rw [IntOp.cmpi_slt, hy] at h1
  rw [show (0#32 : BitVec 32).toInt = 0 from by decide] at h0
  have hx := x.isLt
  rw [BitVec.toInt_eq_toNat_cond] at h0 h1
  split at h0 <;> split at h1 <;> omega

variable [Facts]
  (a0 : FVec Ideal S32x128x3 .f32) (a1 a2 a3 : IVec S32x128 32) (a11 : FVec Ideal S6x128 .f32)

/-- All of the precondition's entries hold, when its last value is one. -/
theorem parts (v16 : IVec S32x128 1) (v17 : FVec Ideal S32x128x2 .f32) (h : fn_part1 (F := Ideal) a11 v16 v17 = fun _ => 1#1) :
    (∀ i, v16 i = 1#1)
    ∧ (∀ i, v17 i ≠ ⊤ ∧ v17 i ≠ ⊥)
    ∧ ∀ i, extractStridedSlice S2x128 ![0, 0] a11 slices_S6x128_S2x128_0_0 i ≠ ⊤
        ∧ extractStridedSlice S2x128 ![0, 0] a11 slices_S6x128_S2x128_0_0 i ≠ ⊥ := by
  have h' := congrFun h (fun a => a.elim0)
  unfold fn_part1 at h'
  obtain ⟨h', h28⟩ := IntOp.andi_eq_one.1 h'
  obtain ⟨h25, h26⟩ := IntOp.andi_eq_one.1 h'
  refine ⟨fun i => Host.reduce_andi_all _ _ _ _ _ h25 i, fun i => finite_of_abs _ ?_, fun i => finite_of_abs _ ?_⟩
  · exact Host.reduce_andi_all _ _ _ _ _ h26 i
  · exact Host.reduce_andi_all _ _ _ _ _ h28 i

/-- The precondition, entry by entry: the class numbers are in their tables, and the centres' first two coordinates and the
    first two rows of the first weight matrix are finite. -/
theorem drawn_holds (a4 : IVec S32x128 1) (a5 : FVec Ideal S32x128 .f32) (a6 a7 : FVec Ideal S32x128x3x20x2 .f32)
    (a8 : FVec Ideal S32x128x3x20 .f32) (a9 : FVec Ideal S32x128 .f32) (a10 : IVec S32x128x20 1) (a12 : FVec Ideal S128 .f32)
    (a13 : FVec Ideal S128x256 .f32) (a14 : FVec Ideal S256 .f32) (a15 : FVec Ideal S512x256 .f32) (a16 : FVec Ideal S256 .f32)
    (a17 : FVec Ideal S256x128 .f32) (a18 : FVec Ideal S128 .f32) (a19 : FVec Ideal S1x128 .f32) (a20 : FVec Ideal S128 .f32)
    (a21 : FVec Ideal S128x128 .f32) (a22 : FVec Ideal S128 .f32) (a23 : FVec Ideal S3x128 .f32) (a24 : FVec Ideal S2x128 .f32)
    (a25 : FVec Ideal S4x128 .f32) (a26 : FVec Ideal S1x128 .f32)
    (h : fn (F := Ideal) a0 a1 a2 a3 a4 a5 a6 a7 a8 a9 a10 a11 a12 a13 a14 a15 a16 a17 a18 a19 a20 a21 a22 a23 a24 a25 a26 = fun _ => 1#1) :
    (∀ i, (a1 i).toNat < 3) ∧ (∀ i, (a2 i).toNat < 2) ∧ (∀ i, (a3 i).toNat < 4)
    ∧ (∀ (b : Fin 32) (p : Fin 128) (j : Fin 3), j.val < 2 → a0 (ix3 b p j) ≠ ⊤ ∧ a0 (ix3 b p j) ≠ ⊥)
    ∧ (∀ k : Fin 128, a11 (ix2 (0 : Fin 6) k) ≠ ⊤ ∧ a11 (ix2 (0 : Fin 6) k) ≠ ⊥)
    ∧ ∀ k : Fin 128, a11 (ix2 (1 : Fin 6) k) ≠ ⊤ ∧ a11 (ix2 (1 : Fin 6) k) ≠ ⊥ := by
  unfold fn at h
  obtain ⟨hv, hc, hw⟩ := parts a11 _ _ h
  have hcls : ∀ i, (IntOp.cmpi .sge (a1 i) 0#32 = 1#1 ∧ IntOp.cmpi .slt (a1 i) 3#32 = 1#1)
      ∧ (IntOp.cmpi .sge (a2 i) 0#32 = 1#1 ∧ IntOp.cmpi .slt (a2 i) 2#32 = 1#1)
      ∧ IntOp.cmpi .sge (a3 i) 0#32 = 1#1 ∧ IntOp.cmpi .slt (a3 i) 4#32 = 1#1 := by
    intro i
    obtain ⟨e, e6⟩ := IntOp.andi_eq_one.1 (hv i)
    obtain ⟨e, e5⟩ := IntOp.andi_eq_one.1 e
    obtain ⟨e, e4⟩ := IntOp.andi_eq_one.1 e
    obtain ⟨e, e3⟩ := IntOp.andi_eq_one.1 e
    obtain ⟨e1, e2⟩ := IntOp.andi_eq_one.1 e
    exact ⟨⟨e1, e2⟩, ⟨e3, e4⟩, e5, e6⟩
  have row : ∀ (q : Fin 2) (k : Fin 128), extractStridedSlice S2x128 ![0, 0] a11 slices_S6x128_S2x128_0_0 (ix2 q k)
      = a11 (ix2 (⟨q.val, by omega⟩ : Fin 6) k) := by
    intro q k
    pointwise []
  have centre : ∀ (b : Fin 32) (p : Fin 128) (j : Fin 2),
      extractStridedSlice S32x128x2 ![0, 0, 0] a0 slices_S32x128x3_S32x128x2_0_0_0 (ix3 b p j)
      = a0 (ix3 b p (⟨j.val, by omega⟩ : Fin 3)) := by
    intro b p j
    pointwise []
  refine ⟨fun i => class_lt _ _ (hcls i).1.1 (hcls i).1.2 (by decide), fun i => class_lt _ _ (hcls i).2.1.1 (hcls i).2.1.2 (by decide),
    fun i => class_lt _ _ (hcls i).2.2.1 (hcls i).2.2.2 (by decide), fun b p j hj => ?_, fun k => ?_, fun k => ?_⟩
  · rw [← centre b p ⟨j.val, hj⟩]
    exact hc _
  · have e : _ = a11 (ix2 (0 : Fin 6) k) := row 0 k
    rw [← e]
    exact hw _
  · have e : _ = a11 (ix2 (1 : Fin 6) k) := row 1 k
    rw [← e]
    exact hw _

end Cert.Drawn
-- ==== Proof.Net.lean ====
/-
  The mathematics of the polygon encoder on ONE row (one polygon), over the extended reals: two PointNet layers over
  the twenty points with masking and a maximum over the points after each, four table rows added at the end. Nothing
  here mentions either program. `feat`, `layer1`, `encode` are the plain formulas; `layer1_split` and `encode_folded`
  are the two rearrangements the optimised program makes (the first layer's product spread over one long row of
  inputs, the batch-norm factor moved into the next weights), each proved equal to the plain formula.
-/
module

public import Mathlib.Data.EReal.Inv
public import Mathlib.Algebra.BigOperators.Fin
public import Mathlib.Algebra.BigOperators.Ring.Finset
public import Mathlib.Tactic.FinCases
public import Mathlib.Tactic.Abel
public import Mathlib.Tactic.Ring
public import Mathlib.Tactic.NormNum

@[expose] public section

noncomputable section

namespace Cert.Net

/-- The rectifier. -/
def relu (a : EReal) : EReal := max a 0

/-- The largest of the twenty points' values. -/
def pool (f : Fin 20 → EReal) : EReal := Finset.univ.sup f

/-- A row of inputs times a weight matrix, at output `j`. -/
def dotRow {n k : ℕ} (x : Fin n → EReal) (w : Fin n → Fin k → EReal) (j : Fin k) : EReal := ∑ i, x i * w i j

/-- Scaling by a nonnegative factor commutes with the rectifier. -/
theorem relu_mul (a s : EReal) (hs : 0 ≤ s) : relu (a * s) = relu a * s := by
  have hm : Monotone fun x : EReal => x * s := fun x y h => mul_le_mul_of_nonneg_right h hs
  have := hm.map_max (a := a) (b := 0)
  simp only [zero_mul] at this
  exact this.symm

/-- A rectified, scaled row times a matrix is the rectified row times the scaled matrix. -/
theorem dotRow_scale {n k : ℕ} (a : Fin n → EReal) (w : Fin n → Fin k → EReal) (s : EReal) (hs : 0 ≤ s) (j : Fin k) :
    dotRow (fun i => relu (a i)) (fun i j => w i j * s) j = dotRow (fun i => relu (a i * s)) w j := by
  unfold dotRow
  refine Finset.sum_congr rfl fun i _ => ?_
  show relu (a i) * (w i j * s) = relu (a i * s) * w i j
  rw [relu_mul _ _ hs, mul_assoc, mul_comm s]

/-- The six features of a point: its position relative to the polygon's centre, its vector, its direction. -/
def feat (p v c : Fin 2 → EReal) (co si : EReal) : Fin 6 → EReal :=
  ![p 0 - c 0, p 1 - c 1, v 0, v 1, co, si]

/-- The plain encoder of one row: `a p k` is the first layer's value before the batch norm at point `p`, `s` the
    batch-norm factor, `m p` the mask. -/
def hidden (s : EReal) (a : Fin 20 → Fin 128 → EReal) (m : Fin 20 → EReal) (w2 : Fin 128 → Fin 256 → EReal)
    (b2 : Fin 256 → EReal) (p : Fin 20) (j : Fin 256) : EReal :=
  (dotRow (fun k => relu (a p k * s)) w2 j + b2 j) * m p

/-- The second network's value before its batch norm: the point's hidden row and the pooled hidden row, each through
    its half of the weights. -/
def joined (h : Fin 20 → Fin 256 → EReal) (w3a w3b : Fin 256 → Fin 256 → EReal) (b3 : Fin 256 → EReal) (p : Fin 20)
    (j : Fin 256) : EReal :=
  (dotRow (h p) w3a j + dotRow (fun i => pool fun q => h q i) w3b j) + b3 j

/-- The plain encoder's result at output `d`. -/
def encode (s : EReal) (a : Fin 20 → Fin 128 → EReal) (m : Fin 20 → EReal) (w2 : Fin 128 → Fin 256 → EReal)
    (b2 : Fin 256 → EReal) (w3a w3b : Fin 256 → Fin 256 → EReal) (b3 : Fin 256 → EReal)
    (w4 : Fin 256 → Fin 128 → EReal) (b4 : Fin 128 → EReal) (d : Fin 128) : EReal :=
  pool fun p => (dotRow (fun j => relu (joined (hidden s a m w2 b2) w3a w3b b3 p j * s)) w4 d + b4 d) * m p

/-- The hidden row with the batch-norm factor inside the weights. -/
def hiddenF (a : Fin 20 → Fin 128 → EReal) (m : Fin 20 → EReal) (w2s : Fin 128 → Fin 256 → EReal)
    (b2 : Fin 256 → EReal) (p : Fin 20) (j : Fin 256) : EReal :=
  (dotRow (fun k => relu (a p k)) w2s j + b2 j) * m p

/-- The encoder with the batch-norm factor inside the weights and the pooled half computed once per row. -/
def encodeF (a : Fin 20 → Fin 128 → EReal) (m : Fin 20 → EReal) (w2s : Fin 128 → Fin 256 → EReal)
    (b2 : Fin 256 → EReal) (w3a w3b : Fin 256 → Fin 256 → EReal) (b3 : Fin 256 → EReal)
    (w4s : Fin 256 → Fin 128 → EReal) (b4 : Fin 128 → EReal) (d : Fin 128) : EReal :=
  pool fun p => (dotRow (fun j => relu (dotRow (hiddenF a m w2s b2 p) w3a j
      + (dotRow (fun i => pool fun q => hiddenF a m w2s b2 q i) w3b j + b3 j))) w4s d + b4 d) * m p

/-- The folded encoder over scaled weights is the plain encoder. -/
theorem encode_folded (s : EReal) (hs : 0 ≤ s) (a : Fin 20 → Fin 128 → EReal) (m : Fin 20 → EReal)
    (w2 : Fin 128 → Fin 256 → EReal) (b2 : Fin 256 → EReal) (w3a w3b : Fin 256 → Fin 256 → EReal) (b3 : Fin 256 → EReal)
    (w4 : Fin 256 → Fin 128 → EReal) (b4 : Fin 128 → EReal) (d : Fin 128) :
    encodeF a m (fun i j => w2 i j * s) b2 w3a w3b b3 (fun i j => w4 i j * s) b4 d
      = encode s a m w2 b2 w3a w3b b3 w4 b4 d := by
  have hh : hiddenF a m (fun i j => w2 i j * s) b2 = hidden s a m w2 b2 := by
    funext p j
    unfold hiddenF hidden
    rw [dotRow_scale _ _ s hs]
  unfold encodeF encode
  rw [hh]
  congr 1
  funext p
  rw [dotRow_scale _ _ s hs]
  unfold joined
  simp only [add_assoc]

/-- A difference times a weight, spread: true when what is subtracted and the weight are finite. -/
theorem sub_mul_finite (x c w : EReal) (hc : c ≠ ⊤) (hc' : c ≠ ⊥) (hw : w ≠ ⊤) (hw' : w ≠ ⊥) :
    (x - c) * w = x * w + c * (-w) := by
  lift c to ℝ using ⟨hc, hc'⟩
  lift w to ℝ using ⟨hw, hw'⟩
  induction x with
  | coe x => norm_cast; ring
  | top =>
    rw [EReal.top_sub_coe]
    rcases lt_trichotomy w 0 with h | h | h
    · rw [EReal.top_mul_coe_of_neg h]; norm_cast
    · subst h; simp
    · rw [EReal.top_mul_coe_of_pos h]; norm_cast
  | bot =>
    rw [EReal.bot_sub]
    rcases lt_trichotomy w 0 with h | h | h
    · rw [EReal.bot_mul_coe_of_neg h]; norm_cast
    · subst h; simp
    · rw [EReal.bot_mul_coe_of_pos h]; norm_cast

/-- The row of the spread first layer's weights for input `i` and point `p`: the 128 inputs are the forty positions,
    the forty vector components, the twenty cosines, the twenty sines, the two centre coordinates, and six zeros. -/
def spread (w : Fin 6 → Fin 128 → EReal) (i : ℕ) (p : Fin 20) (k : Fin 128) : EReal :=
  if i < 40 then (if i = 2 * p.val then w 0 k else if i = 2 * p.val + 1 then w 1 k else 0)
  else if i < 80 then (if i = 40 + 2 * p.val then w 2 k else if i = 40 + 2 * p.val + 1 then w 3 k else 0)
  else if i < 100 then (if i = 80 + p.val then w 4 k else 0)
  else if i < 120 then (if i = 100 + p.val then w 5 k else 0)
  else if i = 120 then 0 - w 0 k
  else if i = 121 then 0 - w 1 k
  else 0

/-- Where point `p`'s eight nonzero weight rows stand among the 128 inputs. -/
def spot (p : Fin 20) : Fin 8 → ℕ :=
  ![2 * p.val, 2 * p.val + 1, 40 + 2 * p.val, 40 + 2 * p.val + 1, 80 + p.val, 100 + p.val, 120, 121]

/-- The weights standing there. -/
def spotW (w : Fin 6 → Fin 128 → EReal) (k : Fin 128) : Fin 8 → EReal :=
  ![w 0 k, w 1 k, w 2 k, w 3 k, w 4 k, w 5 k, 0 - w 0 k, 0 - w 1 k]

/-- The eight rows that a point's features take are rows of the spread weights. -/
theorem spot_lt (p : Fin 20) (e : Fin 8) : spot p e < 128 := by
  have := p.isLt
  fin_cases e <;> simp [spot] <;> omega

/-- A point's eight rows are different rows. -/
theorem spot_inj (p : Fin 20) (e e' : Fin 8) (h : spot p e = spot p e') : e = e' := by
  have := p.isLt
  fin_cases e <;> fin_cases e' <;> simp [spot] at h ⊢ <;> omega

/-- At a point's eight rows the spread weights are the eight weights. -/
theorem spread_spot (w : Fin 6 → Fin 128 → EReal) (p : Fin 20) (k : Fin 128) (e : Fin 8) :
    spread w (spot p e) p k = spotW w k e := by
  have := p.isLt
  unfold spread
  fin_cases e <;> simp [spot, spotW] <;> (repeat' split) <;> first | rfl | omega

/-- Away from a point's eight rows the spread weights are zero. -/
theorem spread_off (w : Fin 6 → Fin 128 → EReal) (i : ℕ) (p : Fin 20) (k : Fin 128) (h : ∀ e, i ≠ spot p e) :
    spread w i p k = 0 := by
  have h0 := h 0; have h1 := h 1; have h2 := h 2; have h3 := h 3
  have h4 := h 4; have h5 := h 5; have h6 := h 6; have h7 := h 7
  simp [spot] at h0 h1 h2 h3 h4 h5 h6 h7
  unfold spread
  (repeat' split) <;> first | rfl | omega

/-- An input times its spread weight, as the sum over the eight places of which at most one is this input's. -/
theorem mul_spread (w : Fin 6 → Fin 128 → EReal) (x : EReal) (i : Fin 128) (p : Fin 20) (k : Fin 128) :
    x * spread w i p k = ∑ e, if i = ⟨spot p e, spot_lt p e⟩ then x * spotW w k e else 0 := by
  by_cases h : ∃ e, i.val = spot p e
  · obtain ⟨e, he⟩ := h
    rw [Finset.sum_eq_single e, if_pos (Fin.ext he), he, spread_spot]
    · intro e' _ hne
      rw [if_neg]
      intro h'
      exact hne (spot_inj p e' e ((congrArg Fin.val h').symm.trans he))
    · intro hn; exact absurd (Finset.mem_univ e) hn
  · rw [spread_off w i p k (fun e he => h ⟨e, he⟩), mul_zero, Finset.sum_eq_zero]
    intro e _
    rw [if_neg]
    intro h'
    exact h ⟨e, congrArg Fin.val h'⟩

/-- The long row times the spread weights is the eight products. -/
theorem row_spread (w : Fin 6 → Fin 128 → EReal) (row : Fin 128 → EReal) (p : Fin 20) (k : Fin 128) :
    ∑ i : Fin 128, row i * spread w i p k = ∑ e, row ⟨spot p e, spot_lt p e⟩ * spotW w k e := by
  simp only [mul_spread]
  rw [Finset.sum_comm]
  refine Finset.sum_congr rfl fun e _ => ?_
  rw [Finset.sum_ite_eq' Finset.univ (⟨spot p e, spot_lt p e⟩ : Fin 128) (fun i => row i * spotW w k e)]
  simp

/-- The first layer, spread over the long row, is the plain product of the six features with the weights — where the
    centre and the two position weights are finite. -/
theorem layer1_split (w : Fin 6 → Fin 128 → EReal) (row : Fin 128 → EReal) (pt v c : Fin 2 → EReal) (co si : EReal)
    (p : Fin 20) (k : Fin 128) (hp : ∀ j : Fin 2, ∀ h, row ⟨2 * p.val + j.val, h⟩ = pt j)
    (hv : ∀ j : Fin 2, ∀ h, row ⟨40 + 2 * p.val + j.val, h⟩ = v j) (hco : ∀ h, row ⟨80 + p.val, h⟩ = co)
    (hsi : ∀ h, row ⟨100 + p.val, h⟩ = si) (hc : ∀ j : Fin 2, ∀ h, row ⟨120 + j.val, h⟩ = c j)
    (fc : ∀ j, c j ≠ ⊤ ∧ c j ≠ ⊥) (fw0 : w 0 k ≠ ⊤ ∧ w 0 k ≠ ⊥) (fw1 : w 1 k ≠ ⊤ ∧ w 1 k ≠ ⊥) :
    ∑ i : Fin 128, row i * spread w i p k = dotRow (feat pt v c co si) w k := by
  rw [row_spread]
  unfold dotRow
  rw [Fin.sum_univ_eight, Fin.sum_univ_six]
  have e0 := hp 0 (spot_lt p 0); have e1 := hp 1 (spot_lt p 1)
  have e2 := hv 0 (spot_lt p 2); have e3 := hv 1 (spot_lt p 3)
  have e4 := hco (spot_lt p 4); have e5 := hsi (spot_lt p 5)
  have e6 := hc 0 (spot_lt p 6); have e7 := hc 1 (spot_lt p 7)
  have r : ∀ e, row ⟨spot p e, spot_lt p e⟩ = (![pt 0, pt 1, v 0, v 1, co, si, c 0, c 1] : Fin 8 → EReal) e := by
    intro e
    fin_cases e
    exacts [e0, e1, e2, e3, e4, e5, e6, e7]
  simp only [r]
  show pt 0 * w 0 k + pt 1 * w 1 k + v 0 * w 2 k + v 1 * w 3 k + co * w 4 k + si * w 5 k + c 0 * (0 - w 0 k)
      + c 1 * (0 - w 1 k)
    = (pt 0 - c 0) * w 0 k + (pt 1 - c 1) * w 1 k + v 0 * w 2 k + v 1 * w 3 k + co * w 4 k + si * w 5 k
  rw [sub_mul_finite _ _ _ (fc 0).1 (fc 0).2 fw0.1 fw0.2, sub_mul_finite _ _ _ (fc 1).1 (fc 1).2 fw1.1 fw1.2,
    zero_sub, zero_sub]
  abel

/-- A one-hot combination of the sixteen table rows: at most one term of each of the four one-hot rows is not zero,
    and every factor is nonnegative, so the sum of the products is the four picked rows' sum. -/
theorem onehot_sum (e : Fin 16 → EReal) (a b c d : Fin 16) (u : EReal) (hu : 0 ≤ u) :
    ∑ i : Fin 16, ((((if i = a then (1 : EReal) else 0) + (if i = b then 1 else 0)) + (if i = c then 1 else 0))
        + (if i = d then 1 else 0) * u) * e i
      = ((e a + e b) + e c) + u * e d := by
  have h01 : ∀ P : Prop, ∀ _ : Decidable P, (0 : EReal) ≤ if P then 1 else 0 := by
    intro P _; split <;> simp
  have key : ∀ i : Fin 16, ((((if i = a then (1 : EReal) else 0) + (if i = b then 1 else 0)) + (if i = c then 1 else 0))
        + (if i = d then 1 else 0) * u) * e i
      = (((if i = a then e i else 0) + (if i = b then e i else 0)) + (if i = c then e i else 0))
        + (if i = d then u * e i else 0) := by
    intro i
    rw [EReal.right_distrib_of_nonneg (add_nonneg (add_nonneg (h01 _ _) (h01 _ _)) (h01 _ _)) (mul_nonneg (h01 _ _) hu),
      EReal.right_distrib_of_nonneg (add_nonneg (h01 _ _) (h01 _ _)) (h01 _ _),
      EReal.right_distrib_of_nonneg (h01 _ _) (h01 _ _)]
    simp only [ite_mul, one_mul, zero_mul]
  simp only [key, Finset.sum_add_distrib, Finset.sum_ite_eq', Finset.mem_univ, if_true]

end Cert.Net
-- ==== Proof.KernelStage.lean ====
/-
  The kernel's block arithmetic, stage by stage, as functions of the point `p`: the printed body writes each stage out
  twenty times, and every copy is one of these. Each stage is read at an entry.
-/
module

public import proofs.«01_k».proof.Proof.Net
public import proofs.«01_k».proof.Proof.Gen.KernelIdeal.Skeleton
public import Idealize.ShloMosaic.Lib.Pointwise

@[expose] public section

noncomputable section

namespace Cert.KernelValue

open Cert.KernelIdeal Cert.KernelIdeal.Gen Idealize.ShloMosaic Idealize.ShloMosaic.TcCoe

/-- Columns 128·p to 128·p + 127 are columns of the first product. -/
theorem slices_cols (p : Fin 20) : S512x2560.Slices ![0, 128 * p.val] S512x128 := by
  revert p; decide

/-- Column p is a column of the mask. -/
theorem slices_col (p : Fin 20) : S512x20.Slices ![0, p.val] S512x1 := by
  revert p; decide

/-- Point `p`'s hidden rows of a block: its 128 columns of the first layer, rectified, through the second layer, times
    its mask column. -/
def stageH (v4 : FVec Ideal S1x128 .f32) (v5 : FVec Ideal S128x256 .bf16) (v7 : FVec Ideal S1x256 .f32)
    (v12 : FVec Ideal S512x20 .f32) (v26 : FVec Ideal S512x2560 .f32) (p : Fin 20) : FVec Ideal S512x256 .bf16 :=
  truncf .bf16 (mulf (addf (matmul dot_S512x128_S128x256_S512x256_1_0_0_1_n_n none
      (truncf .bf16 (maximumf (addf (extractStridedSlice S512x128 ![0, 128 * p.val] v26 (slices_cols p))
        (broadcastTo S512x128 v4 broadcasts_S1x128_S512x128)) (broadcast S512x128 (Scalar.ofBits .f32 0x00000000#32)))
        bitsLt_bf16_f32) v5 (constant S512x256 .f32 0x00000000#32))
      (broadcastTo S512x256 v7 broadcasts_S1x256_S512x256))
    (broadcastTo S512x256 (extractStridedSlice S512x1 ![0, p.val] v12 (slices_col p)) broadcasts_S512x1_S512x256))
    bitsLt_bf16_f32

/-- Entry (r, j) of point p's hidden rows: the rectified first layer through the second layer's weights, with its bias, masked. -/
theorem stageH_apply (v4 : FVec Ideal S1x128 .f32) (v5 : FVec Ideal S128x256 .bf16) (v7 : FVec Ideal S1x256 .f32)
    (v12 : FVec Ideal S512x20 .f32) (v26 : FVec Ideal S512x2560 .f32) (p : Fin 20) (r : Fin 512) (j : Fin 256) :
    stageH v4 v5 v7 v12 v26 p (ix2 r j)
      = ((∑ k : Fin 128, Net.relu (v26 (ix2 r (⟨128 * p.val + k.val, by have := p.isLt; have := k.isLt; omega⟩ : Fin 2560))
          + v4 (ix2 (0 : Fin 1) k)) * v5 (ix2 k j)) + v7 (ix2 (0 : Fin 1) j)) * v12 (ix2 r p) := by
  pointwise [stageH]
  rfl

/-- Point `p`'s result rows of a block. -/
def stageG (v12 : FVec Ideal S512x20 .f32) (h : FVec Ideal S512x256 .bf16) (v306 : FVec Ideal S256x256 .bf16)
    (v312 : FVec Ideal S512x256 .f32) (v313 : FVec Ideal S256x128 .bf16) (v315 : FVec Ideal S1x128 .f32) (p : Fin 20) :
    FVec Ideal S512x128 .f32 :=
  mulf (addf (matmul dot_S512x256_S256x128_S512x128_1_0_0_1_n_n none
      (truncf .bf16 (maximumf (addf (matmul dot_S512x256_S256x256_S512x256_1_0_0_1_n_n none h v306
          (constant S512x256 .f32 0x00000000#32)) v312) (broadcast S512x256 (Scalar.ofBits .f32 0x00000000#32)))
        bitsLt_bf16_f32) v313 (constant S512x128 .f32 0x00000000#32))
      (broadcastTo S512x128 v315 broadcasts_S1x128_S512x128))
    (broadcastTo S512x128 (extractStridedSlice S512x1 ![0, p.val] v12 (slices_col p)) broadcasts_S512x1_S512x128)

/-- Entry (r, d) of point p's result rows: the rectified third layer through the fourth layer's weights, with its bias, masked. -/
theorem stageG_apply (v12 : FVec Ideal S512x20 .f32) (h : FVec Ideal S512x256 .bf16) (v306 : FVec Ideal S256x256 .bf16)
    (v312 : FVec Ideal S512x256 .f32) (v313 : FVec Ideal S256x128 .bf16) (v315 : FVec Ideal S1x128 .f32) (p : Fin 20)
    (r : Fin 512) (d : Fin 128) :
    stageG v12 h v306 v312 v313 v315 p (ix2 r d)
      = ((∑ j : Fin 256, Net.relu ((∑ i : Fin 256, h (ix2 r i) * v306 (ix2 i j)) + v312 (ix2 r j)) * v313 (ix2 j d))
          + v315 (ix2 (0 : Fin 1) d)) * v12 (ix2 r p) := by
  pointwise [stageG]
  rfl

/-- The pooled hidden rows through their half of the weights, with the bias. -/
def stageB (pooled : FVec Ideal S512x256 .bf16) (v307 : FVec Ideal S256x256 .bf16) (v309 : FVec Ideal S1x256 .f32) :
    FVec Ideal S512x256 .f32 :=
  addf (matmul dot_S512x256_S256x256_S512x256_1_0_0_1_n_n none pooled v307 (constant S512x256 .f32 0x00000000#32))
    (broadcastTo S512x256 (shapeCast S1x256 v309 shapeCasts_S1x256_S1x256) broadcasts_S1x256_S512x256)

/-- Entry (r, j) of the pooled rows' product, with the bias. -/
theorem stageB_apply (pooled : FVec Ideal S512x256 .bf16) (v307 : FVec Ideal S256x256 .bf16)
    (v309 : FVec Ideal S1x256 .f32) (r : Fin 512) (j : Fin 256) :
    stageB pooled v307 v309 (ix2 r j) = (∑ i : Fin 256, pooled (ix2 r i) * v307 (ix2 i j)) + v309 (ix2 (0 : Fin 1) j) := by
  pointwise [stageB]

/-- An operation run along the first `n + 1` of the twenty points. -/
def chain {α : Type} (op : α → α → α) (f : Fin 20 → α) : (n : ℕ) → n < 20 → α
  | 0, h => f ⟨0, h⟩
  | n + 1, h => op (chain op f n (Nat.lt_of_succ_lt h)) (f ⟨n + 1, h⟩)

/-- A running maximum of blocks, at an entry, is the running maximum of the entries. -/
theorem chain_apply {s : Shape} {φ : FTy} (f : Fin 20 → FVec Ideal s φ) (i : s.Idx) (n : ℕ) (h : n < 20) :
    (chain maximumf f n h : FVec Ideal s φ) i = chain (max : EReal → EReal → EReal) (fun p => f p i) n h := by
  induction n with
  | zero => rfl
  | succ n ih => exact congrArg (fun y : EReal => max y (f ⟨n + 1, h⟩ i)) (ih (Nat.lt_of_succ_lt h))

/-- A running maximum over the first n + 1 points is at most b exactly when each of them is. -/
theorem chain_le (f : Fin 20 → EReal) (b : EReal) (n : ℕ) (h : n < 20) :
    chain max f n h ≤ b ↔ ∀ p : Fin 20, p.val ≤ n → f p ≤ b := by
  induction n with
  | zero =>
    constructor
    · intro hb p hp
      obtain rfl : p = ⟨0, h⟩ := Fin.ext (Nat.le_zero.mp hp)
      exact hb
    · intro hb
      exact hb ⟨0, h⟩ le_rfl
  | succ n ih =>
    show max (chain max f n _) (f ⟨n + 1, h⟩) ≤ b ↔ _
    rw [max_le_iff, ih]
    constructor
    · rintro ⟨h1, h2⟩ p hp
      rcases Nat.lt_or_ge n p.val with hlt | hge
      · obtain rfl : p = ⟨n + 1, h⟩ := Fin.ext (by show p.val = n + 1; omega)
        exact h2
      · exact h1 p hge
    · intro hb
      exact ⟨fun p hp => hb p (by omega), hb ⟨n + 1, h⟩ le_rfl⟩

/-- The running maximum over all twenty points is the pool. -/
theorem chain_pool (f : Fin 20 → EReal) (h : 19 < 20) : chain max f 19 h = Net.pool f := by
  refine eq_of_forall_ge_iff fun b => ?_
  rw [chain_le]
  show _ ↔ Finset.univ.sup f ≤ b
  rw [Finset.sup_le_iff]
  exact ⟨fun hb p _ => hb p (by have := p.isLt; omega), fun hb p _ => hb p (Finset.mem_univ p)⟩

end Cert.KernelValue
-- ==== Proof.KernelBlock.lean ====
/-
  One block of the kernel's result, as a function of what the body loads, and its entries: the encoder's row (for
  first-layer weights laid out as `Net.spread` says), the one-hot rows times the table, and the speed network's row.
-/
module

public import proofs.«01_k».proof.Proof.KernelStage

@[expose] public section

noncomputable section

namespace Cert.KernelValue

open Cert.KernelIdeal Cert.KernelIdeal.Gen Idealize.ShloMosaic Idealize.ShloMosaic.TcCoe

section Encoder

variable (po : FVec Ideal S512x20 .f32) (pp pv : FVec Ideal S512x40 .f32) (ctr : FVec Ideal S512x2 .f32)
  (w1c : FVec Ideal S128x2560 .f32) (b1 : FVec Ideal S1x128 .f32) (w2 : FVec Ideal S128x256 .bf16)
  (b2 : FVec Ideal S1x256 .f32) (mk : IVec S512x20 32) (w3a w3b : FVec Ideal S256x256 .bf16)
  (b3 : FVec Ideal S1x256 .f32) (w4 : FVec Ideal S256x128 .bf16) (b4 : FVec Ideal S1x128 .f32)

/-- The hidden rows of the block, point by point. -/
def hiddens (p : Fin 20) : FVec Ideal S512x256 .bf16 :=
  stageH (k0_pay111 b1) w2 (k0_pay112 b2) (k0_pay113 mk) (k0_pay114 po pp pv ctr w1c) p

/-- The encoder's rows of the block. -/
def encoded : FVec Ideal S512x128 .f32 :=
  chain maximumf (fun p => stageG (k0_pay113 mk) (hiddens po pp pv ctr w1c b1 w2 b2 mk p) w3a
    (stageB (chain maximumf (hiddens po pp pv ctr w1c b1 w2 b2 mk) 19 (by omega)) w3b b3) w4 (k0_pay147 b4) p) 19 (by omega)

/-- The long input row of row `r`: forty positions, forty vector components, twenty cosines, twenty sines, the centre,
    six zeros. -/
def longRow (r : Fin 512) (x : Fin 128) : EReal :=
  if h : x.val < 40 then pp (ix2 r ⟨x.val, h⟩)
  else if h : x.val - 40 < 40 then pv (ix2 r ⟨x.val - 40, h⟩)
  else if h : x.val - 40 - 40 < 20 then Ideal.cos (po (ix2 r ⟨x.val - 40 - 40, h⟩))
  else if h : x.val - 40 - 40 - 20 < 20 then Ideal.sin (po (ix2 r ⟨x.val - 40 - 40 - 20, h⟩))
  else if h : x.val - 40 - 40 - 20 - 20 < 2 then ctr (ix2 r ⟨x.val - 40 - 40 - 20 - 20, h⟩) else 0

/-- Entry (r, k) of the first product: the dot of row r of the joined features with column k of the spread weights. -/
theorem first_apply (r : Fin 512) (k : Fin 2560) :
    k0_pay114 (F := Ideal) po pp pv ctr w1c (ix2 r k) = ∑ x : Fin 128, longRow po pp pv ctr r x * w1c (ix2 x k) := by
  pointwise [k0_pay114]
  rfl

/-- The mask column as a number. -/
def maskAt (r : Fin 512) (p : Fin 20) : EReal :=
  FloatOps.sitofp (F := Ideal) .f32 (BitVec.setWidth 32 (IntOp.cmpi .ne (mk (ix2 r p)) 0#32))

/-- Point `p`'s features in row `r`. -/
def featAt (r : Fin 512) (p : Fin 20) : Fin 6 → EReal :=
  Net.feat (fun j => pp (ix2 r (⟨2 * p.val + j.val, by have := p.isLt; have := j.isLt; omega⟩ : Fin 40)))
    (fun j => pv (ix2 r (⟨2 * p.val + j.val, by have := p.isLt; have := j.isLt; omega⟩ : Fin 40)))
    (fun j => ctr (ix2 r j)) (Ideal.cos (po (ix2 r p))) (Ideal.sin (po (ix2 r p)))

/-- Under finite centres and weights, column 128·p + k of the first product is the dot of point p's features,
    the centre subtracted, with column k of the weights. -/
theorem layer1_apply (w : Fin 6 → Fin 128 → EReal)
    (hw : ∀ (i : Fin 128) (p : Fin 20) (k : Fin 128) (h : 128 * p.val + k.val < 2560),
      w1c (ix2 i ⟨128 * p.val + k.val, h⟩) = Net.spread w i.val p k)
    (r : Fin 512) (p : Fin 20) (k : Fin 128) (h : 128 * p.val + k.val < 2560)
    (fc : ∀ j : Fin 2, ctr (ix2 r j) ≠ ⊤ ∧ ctr (ix2 r j) ≠ ⊥) (fw0 : w 0 k ≠ ⊤ ∧ w 0 k ≠ ⊥)
    (fw1 : w 1 k ≠ ⊤ ∧ w 1 k ≠ ⊥) :
    k0_pay114 (F := Ideal) po pp pv ctr w1c (ix2 r ⟨128 * p.val + k.val, h⟩)
      = Net.dotRow (featAt po pp pv ctr r p) w k := by
  have hp := p.isLt
  rw [first_apply]
  simp only [hw]
  refine Net.layer1_split w (longRow po pp pv ctr r) _ _ _ _ _ p k ?_ ?_ ?_ ?_ ?_ fc fw0 fw1
  · intro j h
    have := j.isLt
    exact dif_pos (show 2 * p.val + j.val < 40 by omega)
  · intro j h
    have := j.isLt
    unfold longRow
    rw [dif_neg (show ¬40 + 2 * p.val + j.val < 40 by omega), dif_pos (show 40 + 2 * p.val + j.val - 40 < 40 by omega)]
    exact congrArg (fun q => pv (ix2 r q)) (Fin.ext (show 40 + 2 * p.val + j.val - 40 = 2 * p.val + j.val by omega))
  · intro h
    unfold longRow
    rw [dif_neg (show ¬80 + p.val < 40 by omega), dif_neg (show ¬80 + p.val - 40 < 40 by omega),
      dif_pos (show 80 + p.val - 40 - 40 < 20 by omega)]
    exact congrArg (fun q => Ideal.cos (po (ix2 r q))) (Fin.ext (show 80 + p.val - 40 - 40 = p.val by omega))
  · intro h
    unfold longRow
    rw [dif_neg (show ¬100 + p.val < 40 by omega), dif_neg (show ¬100 + p.val - 40 < 40 by omega),
      dif_neg (show ¬100 + p.val - 40 - 40 < 20 by omega), dif_pos (show 100 + p.val - 40 - 40 - 20 < 20 by omega)]
    exact congrArg (fun q => Ideal.sin (po (ix2 r q))) (Fin.ext (show 100 + p.val - 40 - 40 - 20 = p.val by omega))
  · intro j h
    have := j.isLt
    unfold longRow
    rw [dif_neg (show ¬120 + j.val < 40 by omega), dif_neg (show ¬120 + j.val - 40 < 40 by omega),
      dif_neg (show ¬120 + j.val - 40 - 40 < 20 by omega), dif_neg (show ¬120 + j.val - 40 - 40 - 20 < 20 by omega),
      dif_pos (show 120 + j.val - 40 - 40 - 20 - 20 < 2 by omega)]
    exact congrArg (fun q => ctr (ix2 r q)) (Fin.ext (show 120 + j.val - 40 - 40 - 20 - 20 = j.val by omega))

/-- The encoder's entry: `Net.encodeF` of the row. -/
theorem encoded_apply (w : Fin 6 → Fin 128 → EReal)
    (hw : ∀ (i : Fin 128) (p : Fin 20) (k : Fin 128) (h : 128 * p.val + k.val < 2560),
      w1c (ix2 i ⟨128 * p.val + k.val, h⟩) = Net.spread w i.val p k)
    (r : Fin 512) (fc : ∀ j : Fin 2, ctr (ix2 r j) ≠ ⊤ ∧ ctr (ix2 r j) ≠ ⊥) (fw0 : ∀ k, w 0 k ≠ ⊤ ∧ w 0 k ≠ ⊥)
    (fw1 : ∀ k, w 1 k ≠ ⊤ ∧ w 1 k ≠ ⊥) (d : Fin 128) :
    encoded po pp pv ctr w1c b1 w2 b2 mk w3a w3b b3 w4 b4 (ix2 r d)
      = Net.encodeF (fun p k => Net.dotRow (featAt po pp pv ctr r p) w k + b1 (ix2 (0 : Fin 1) k)) (maskAt mk r)
          (fun k j => w2 (ix2 k j)) (fun j => b2 (ix2 (0 : Fin 1) j)) (fun i j => w3a (ix2 i j)) (fun i j => w3b (ix2 i j))
          (fun j => b3 (ix2 (0 : Fin 1) j)) (fun j d => w4 (ix2 j d)) (fun d => b4 (ix2 (0 : Fin 1) d)) d := by
  have hm : ∀ p : Fin 20, k0_pay113 (F := Ideal) mk (ix2 r p) = maskAt mk r p := by
    intro p
    pointwise [k0_pay113]
    rfl
  have h1 : ∀ k : Fin 128, k0_pay111 (F := Ideal) b1 (ix2 (0 : Fin 1) k) = b1 (ix2 (0 : Fin 1) k) := by
    intro k
    pointwise [k0_pay111]
  have h2 : ∀ k : Fin 256, k0_pay112 (F := Ideal) b2 (ix2 (0 : Fin 1) k) = b2 (ix2 (0 : Fin 1) k) := by
    intro k
    pointwise [k0_pay112]
  have h4 : ∀ k : Fin 128, k0_pay147 (F := Ideal) b4 (ix2 (0 : Fin 1) k) = b4 (ix2 (0 : Fin 1) k) := by
    intro k
    pointwise [k0_pay147]
  have hh : ∀ (p : Fin 20) (j : Fin 256), hiddens po pp pv ctr w1c b1 w2 b2 mk p (ix2 r j)
      = Net.hiddenF (fun p k => Net.dotRow (featAt po pp pv ctr r p) w k + b1 (ix2 (0 : Fin 1) k)) (maskAt mk r)
          (fun k j => w2 (ix2 k j)) (fun j => b2 (ix2 (0 : Fin 1) j)) p j := by
    intro p j
    unfold hiddens
    rw [stageH_apply]
    simp only [hm, h1, h2, layer1_apply po pp pv ctr w1c w hw r _ _ _ fc (fw0 _) (fw1 _)]
    rfl
  unfold encoded
  rw [chain_apply, chain_pool]
  unfold Net.encodeF
  congr 1
  funext p
  rw [stageG_apply, hm, h4]
  simp only [stageB_apply, hh, chain_apply, chain_pool]
  rfl

end Encoder

end Cert.KernelValue
-- ==== Proof.KernelTail.lean ====
/-
  The rest of one block: the one-hot rows times the table, the speed network, and the sum that the body stores; and
  what that sum is at an entry when the class numbers are in range.
-/
module

public import proofs.«01_k».proof.Proof.KernelBlock

@[expose] public section

noncomputable section

namespace Cert.KernelValue

open Cert.KernelIdeal Cert.KernelIdeal.Gen Idealize.ShloMosaic Idealize.ShloMosaic.TcCoe

/-- A true bit, widened, is the integer one. -/
theorem bit_one : (BitVec.setWidth 32 (BitVec.ofBool true)).toInt = 1 := by decide

/-- An equality test as a number. -/
theorem eqNum (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · rw [if_pos h, h, beq_self_eq_true, bit_one]
    norm_num
  · rw [if_neg h, beq_eq_false_iff_ne.mpr h]
    norm_num

/-- The switch of row `r`: whether it has a speed, as a number. -/
def hasAt (has : IVec S512x1 32) (r : Fin 512) : EReal :=
  FloatOps.sitofp (F := Ideal) .f32 (BitVec.setWidth 32 (IntOp.cmpi .ne (has (ix2 r (0 : Fin 1))) 0#32))

/-- The switch is zero or one. -/
theorem hasAt_cases (has : IVec S512x1 32) (r : Fin 512) :
    hasAt has r = if has (ix2 r (0 : Fin 1)) = 0#32 then (0 : EReal) else 1 := by
  show (((BitVec.setWidth 32 (BitVec.ofBool (has (ix2 r (0 : Fin 1)) != 0#32))).toInt : ℝ) : EReal) = _
  by_cases h : has (ix2 r (0 : Fin 1)) = 0#32
  · rw [if_pos h, h]
    norm_num
  · rw [if_neg h, bne_iff_ne.mpr h, bit_one]
    norm_num

section Tail

variable (has ty rt tl : IVec S512x1 32) (speed : FVec Ideal S512x1 .f32) (sw1 sb1 : FVec Ideal S1x128 .f32)
  (sw2 : FVec Ideal S128x128 .f32) (sb2 : FVec Ideal S1x128 .f32) (t3 : FVec Ideal S3x128 .f32)
  (t2 : FVec Ideal S2x128 .f32) (t4 : FVec Ideal S4x128 .f32) (t1 : FVec Ideal S1x128 .f32)

/-- The one-hot rows times the table. -/
def tables : FVec Ideal S512x128 .f32 :=
  k0_pay167 (k0_pay164 has) (iota .tc S512x16 32 [1] iota_S512x16_d1_w32) (k0_pay165 ty) (k0_pay166 rt) tl t3 t2 t4 t1

/-- The table: three type rows, two route rows, four light rows, the row for a missing speed, zeros. -/
def tableRow (d : Fin 128) (x : Fin 16) : EReal :=
  if h : x.val < 3 then t3 (ix2 ⟨x.val, h⟩ d)
  else if h : x.val - 3 < 2 then t2 (ix2 ⟨x.val - 3, h⟩ d)
  else if h : x.val - 3 - 2 < 4 then t4 (ix2 ⟨x.val - 3 - 2, h⟩ d)
  else if h : x.val - 3 - 2 - 4 < 1 then t1 (ix2 ⟨x.val - 3 - 2 - 4, h⟩ d) else 0

/-- Entry (r, d) of the one-hot product, written out over the sixteen rows of the joined table. -/
theorem tables_open (r : Fin 512) (d : Fin 128) :
    tables has ty rt tl t3 t2 t4 t1 (ix2 r d)
      = ∑ x : Fin 16, ((((if BitVec.ofNat 32 x.val = ty (ix2 r (0 : Fin 1)) then (1 : EReal) else 0)
          + (if BitVec.ofNat 32 x.val = IntOp.addi (rt (ix2 r (0 : Fin 1))) 3#32 then (1 : EReal) else 0))
          + (if BitVec.ofNat 32 x.val = IntOp.addi (tl (ix2 r (0 : Fin 1))) 5#32 then (1 : EReal) else 0))
          + (if BitVec.ofNat 32 x.val = 9#32 then (1 : EReal) else 0) * (1 - hasAt has r)) * tableRow t3 t2 t4 t1 d x := by
  simp only [← eqNum]
  pointwise [tables, k0_pay167, k0_pay166, k0_pay165, k0_pay164]
  rfl

/-- A class number in range, moved by a constant, as the position it is compared with. -/
theorem class_eq (x : Fin 16) (v : BitVec 32) (a : Fin 16) (h : v.toNat = a.val) :
    (BitVec.ofNat 32 x.val = v) = (x = a) := by
  have hx := x.isLt
  refine propext ⟨fun e => Fin.ext ?_, fun e => ?_⟩
  · rw [← h, ← e, BitVec.toNat_ofNat]
    omega
  · rw [e, ← h, BitVec.ofNat_toNat, BitVec.setWidth_eq]

/-- One minus the speed bit is not negative. -/
theorem switch_nonneg (r : Fin 512) : (0 : EReal) ≤ 1 - hasAt has r := by
  rw [hasAt_cases]
  split
  · rw [sub_zero]; exact zero_le_one
  · rw [← EReal.coe_one, ← EReal.coe_sub, sub_self]; exact le_rfl

/-- The one-hot rows times the table: the three rows picked, and the missing-speed row times one minus the switch. -/
theorem tables_apply (r : Fin 512) (d : Fin 128) (h1 : (ty (ix2 r (0 : Fin 1))).toNat < 3)
    (h2 : (rt (ix2 r (0 : Fin 1))).toNat < 2) (h3 : (tl (ix2 r (0 : Fin 1))).toNat < 4) :
    tables has ty rt tl t3 t2 t4 t1 (ix2 r d)
      = ((t3 (ix2 ⟨_, h1⟩ d) + t2 (ix2 ⟨_, h2⟩ d)) + t4 (ix2 ⟨_, h3⟩ d))
        + (1 - hasAt has r) * t1 (ix2 (0 : Fin 1) d) := by
  rw [tables_open]
  have e2 : (IntOp.addi (rt (ix2 r (0 : Fin 1))) 3#32).toNat = (rt (ix2 r (0 : Fin 1))).toNat + 3 := by
    show (rt (ix2 r (0 : Fin 1)) + 3#32).toNat = _
    rw [BitVec.toNat_add, BitVec.toNat_ofNat]
    omega
  have e3 : (IntOp.addi (tl (ix2 r (0 : Fin 1))) 5#32).toNat = (tl (ix2 r (0 : Fin 1))).toNat + 5 := by
    show (tl (ix2 r (0 : Fin 1)) + 5#32).toNat = _
    rw [BitVec.toNat_add, BitVec.toNat_ofNat]
    omega
  simp only [fun x => class_eq x (ty (ix2 r (0 : Fin 1))) ⟨(ty (ix2 r (0 : Fin 1))).toNat, by omega⟩ rfl,
    fun x => class_eq x (IntOp.addi (rt (ix2 r (0 : Fin 1))) 3#32) ⟨(rt (ix2 r (0 : Fin 1))).toNat + 3, by omega⟩ e2,
    fun x => class_eq x (IntOp.addi (tl (ix2 r (0 : Fin 1))) 5#32) ⟨(tl (ix2 r (0 : Fin 1))).toNat + 5, by omega⟩ e3,
    fun x => class_eq x 9#32 ⟨9, by omega⟩ rfl]
  rw [Net.onehot_sum (tableRow t3 t2 t4 t1 d) _ _ _ _ _ (switch_nonneg has r)]
  have a1 : tableRow t3 t2 t4 t1 d ⟨(ty (ix2 r (0 : Fin 1))).toNat, by omega⟩ = t3 (ix2 ⟨_, h1⟩ d) := dif_pos h1
  have a2 : tableRow t3 t2 t4 t1 d ⟨(rt (ix2 r (0 : Fin 1))).toNat + 3, by omega⟩ = t2 (ix2 ⟨_, h2⟩ d) := by
    unfold tableRow
    rw [dif_neg (show ¬(rt (ix2 r (0 : Fin 1))).toNat + 3 < 3 by omega),
      dif_pos (show (rt (ix2 r (0 : Fin 1))).toNat + 3 - 3 < 2 by omega)]
    exact congrArg (fun q => t2 (ix2 q d)) (Fin.ext (Nat.add_sub_cancel _ 3))
  have a3 : tableRow t3 t2 t4 t1 d ⟨(tl (ix2 r (0 : Fin 1))).toNat + 5, by omega⟩ = t4 (ix2 ⟨_, h3⟩ d) := by
    unfold tableRow
    rw [dif_neg (show ¬(tl (ix2 r (0 : Fin 1))).toNat + 5 < 3 by omega),
      dif_neg (show ¬(tl (ix2 r (0 : Fin 1))).toNat + 5 - 3 < 2 by omega),
      dif_pos (show (tl (ix2 r (0 : Fin 1))).toNat + 5 - 3 - 2 < 4 by omega)]
    exact congrArg (fun q => t4 (ix2 q d)) (Fin.ext (show (tl (ix2 r (0 : Fin 1))).toNat + 5 - 3 - 2 = (tl (ix2 r (0 : Fin 1))).toNat by omega))
  rw [a1, a2, a3]
  rfl

/-- The speed network of a row. -/
def speedRow (s : EReal) (d : Fin 128) : EReal :=
  (∑ k : Fin 128, max (s * sw1 (ix2 (0 : Fin 1) k) + sb1 (ix2 (0 : Fin 1) k)) 0 * sw2 (ix2 k d)) + sb2 (ix2 (0 : Fin 1) d)

/-- What the body stores: encoder, tables and speed network, summed. -/
def total (enc : FVec Ideal S512x128 .f32) : FVec Ideal S512x128 .f32 :=
  k0_pay1 enc (k0_pay164 has) (tables has ty rt tl t3 t2 t4 t1) (k0_pay168 speed sw1 sb1) sw2 sb2

/-- The stored sum at an entry: the speed network's row where there is a speed, the missing-speed row where not. -/
theorem total_apply (enc : FVec Ideal S512x128 .f32) (r : Fin 512) (d : Fin 128)
    (h1 : (ty (ix2 r (0 : Fin 1))).toNat < 3) (h2 : (rt (ix2 r (0 : Fin 1))).toNat < 2)
    (h3 : (tl (ix2 r (0 : Fin 1))).toNat < 4) :
    total has ty rt tl speed sw1 sb1 sw2 sb2 t3 t2 t4 t1 enc (ix2 r d)
      = (((enc (ix2 r d) + t3 (ix2 ⟨_, h1⟩ d)) + t2 (ix2 ⟨_, h2⟩ d)) + t4 (ix2 ⟨_, h3⟩ d))
        + (if has (ix2 r (0 : Fin 1)) = 0#32 then t1 (ix2 (0 : Fin 1) d)
            else speedRow sw1 sb1 sw2 sb2 (speed (ix2 r (0 : Fin 1))) d) := by
  have ht : total has ty rt tl speed sw1 sb1 sw2 sb2 t3 t2 t4 t1 enc (ix2 r d)
      = (enc (ix2 r d) + tables has ty rt tl t3 t2 t4 t1 (ix2 r d))
        + speedRow sw1 sb1 sw2 sb2 (speed (ix2 r (0 : Fin 1))) d * hasAt has r := by
    pointwise [total, k0_pay1, k0_pay168, k0_pay164]
    rfl
  rw [ht, tables_apply has ty rt tl t3 t2 t4 t1 r d h1 h2 h3, hasAt_cases]
  split
  · rw [sub_zero, one_mul, mul_zero, add_zero]
    simp only [add_assoc]
  · rw [← EReal.coe_one, ← EReal.coe_sub, sub_self, EReal.coe_one, EReal.coe_zero, zero_mul, add_zero, mul_one]
    simp only [add_assoc]

end Tail

end Cert.KernelValue
-- ==== Proof.KernelSpread.lean ====
/-
  The first layer's weights as the body lays them out at the first grid point: a zero array, and over it, for each of
  the twenty points, five boxes. Read at an entry this is `Net.spread`.
-/
module

public import proofs.«01_k».proof.Proof.KernelTail

@[expose] public section

noncomputable section

namespace Cert.KernelValue

open Cert.KernelIdeal Cert.KernelIdeal.Gen Idealize.ShloMosaic Idealize.ShloMosaic.TcCoe

/-- What a list of stores into a matrix leaves at an entry: the last store's payload when its box holds the entry, else
    what the earlier stores left. -/
theorem canon_box {Val : EltTy → Type} [∀ e, Nonempty (Val e)] {e : EltTy} {A B m n a b : ℕ}
    (inb : ∀ x, (![a, b] : Fin 2 → ℕ) x + (⟨2, ![m, n]⟩ : Shape).size x ≤ (⟨2, ![A, B]⟩ : Shape).size x)
    (w : (⟨2, ![m, n]⟩ : Shape).Idx → Val e) (L : List (View.Piece Val (⟨2, ![A, B]⟩ : Shape) e)) (i : Fin A) (c : Fin B) :
    View.canon ((⟨Rect.unit (s := ⟨2, ![A, B]⟩) ![a, b] (⟨2, ![m, n]⟩ : Shape).size inb, w⟩ :
        View.Piece Val (⟨2, ![A, B]⟩ : Shape) e) :: L) (ix2 i c)
      = if h : (a ≤ i.val ∧ i.val < a + m) ∧ (b ≤ c.val ∧ c.val < b + n) then
          w (ix2 (⟨i.val - a, by omega⟩ : Fin m) (⟨c.val - b, by omega⟩ : Fin n))
        else View.canon L (ix2 i c) := by
  split
  · rename_i h
    have he : (ix2 i c : (⟨2, ![A, B]⟩ : Shape).Idx)
        = (Rect.unit (s := ⟨2, ![A, B]⟩) ![a, b] (⟨2, ![m, n]⟩ : Shape).size inb).emb
            (ix2 (⟨i.val - a, by omega⟩ : Fin m) (⟨c.val - b, by omega⟩ : Fin n)) := by
      funext x
      apply Fin.ext
      match x with
      | ⟨0, _⟩ => show i.val = a + 1 * (i.val - a); omega
      | ⟨1, _⟩ => show c.val = b + 1 * (c.val - b); omega
    rw [he]
    exact View.canon_cons_emb _ _ _ _
  · rename_i h
    refine View.canon_cons_of_not_mem _ _ fun hm => h ?_
    have h0 := (Rect.mem_set_unit (s := ⟨2, ![A, B]⟩) (off := ![a, b]) (size := (⟨2, ![m, n]⟩ : Shape).size) (inb := inb)).mp hm
    exact ⟨h0 0, h0 1⟩

/-- A box of a matrix lies within it. -/
theorem box_in {A B m n a b : ℕ} (h1 : a + m ≤ A) (h2 : b + n ≤ B) :
    ∀ x, (![a, b] : Fin 2 → ℕ) x + (⟨2, ![m, n]⟩ : Shape).size x ≤ (⟨2, ![A, B]⟩ : Shape).size x := by
  intro x
  match x with
  | ⟨0, _⟩ => exact h1
  | ⟨1, _⟩ => exact h2

section Pieces

variable {F : FTy → Type} [FloatOps F] (a01 a23 : Vec F S2x128 .f32) (a4 a5 : Vec F S1x128 .f32)

/-- The five stores of point `n`, the last first, before the stores `L`. -/
def five (n : ℕ) (h : n < 20) (L : List (View.Piece (Elt F) S128x2560 .f32)) : List (View.Piece (Elt F) S128x2560 .f32) :=
  ⟨Rect.unit ![120, 128 * n] S2x128.size (box_in (by omega) (by omega)), k0_pay11 a01⟩ ::
  ⟨Rect.unit ![100 + n, 128 * n] S1x128.size (box_in (by omega) (by omega)), k0_pay10 a5⟩ ::
  ⟨Rect.unit ![80 + n, 128 * n] S1x128.size (box_in (by omega) (by omega)), k0_pay9 a4⟩ ::
  ⟨Rect.unit ![40 + 2 * n, 128 * n] S2x128.size (box_in (by omega) (by omega)), k0_pay8 a23⟩ ::
  ⟨Rect.unit ![2 * n, 128 * n] S2x128.size (box_in (by omega) (by omega)), k0_pay7 a01⟩ :: L

/-- The stores of the first `n` points, the last first, over the store of zeros. -/
def pieces : (n : ℕ) → n ≤ 20 → List (View.Piece (Elt F) S128x2560 .f32)
  | 0, _ => [⟨Rect.unit ![0, 0] S128x2560.size (box_in (by omega) (by omega)), k0_pay6⟩]
  | n + 1, h => five a01 a23 a4 a5 n h (pieces n (Nat.le_of_succ_le h))

end Pieces

section Read

variable (a01 a23 : FVec Ideal S2x128 .f32) (a4 a5 : FVec Ideal S1x128 .f32) (w : Fin 6 → Fin 128 → EReal)

/-- The negated box holds the negated entries. -/
theorem neg_box (r : Fin 2) (c : Fin 128) : k0_pay11 (F := Ideal) a01 (ix2 r c) = 0 - a01 (ix2 r c) := by
  pointwise [k0_pay11]

/-- The box of the first pair of rows holds their entries. -/
theorem box7 (r : Fin 2) (c : Fin 128) : k0_pay7 (F := Ideal) a01 (ix2 r c) = a01 (ix2 r c) := by pointwise [k0_pay7]
/-- The box of the second pair of rows holds their entries. -/
theorem box8 (r : Fin 2) (c : Fin 128) : k0_pay8 (F := Ideal) a01 (ix2 r c) = a01 (ix2 r c) := by pointwise [k0_pay8]
/-- The box of the fifth row holds its entries. -/
theorem box9 (r : Fin 1) (c : Fin 128) : k0_pay9 (F := Ideal) a4 (ix2 r c) = a4 (ix2 r c) := by pointwise [k0_pay9]
/-- The box of the sixth row holds its entries. -/
theorem box10 (r : Fin 1) (c : Fin 128) : k0_pay10 (F := Ideal) a4 (ix2 r c) = a4 (ix2 r c) := by pointwise [k0_pay10]

/-- The first store holds zeros. -/
theorem zeros_apply (y : S128x2560.Idx) : k0_pay6 (F := Ideal) y = (0 : EReal) := by pointwise [k0_pay6]

/-- Point `p`'s five boxes, in its own columns, over zeros: the spread weights. -/
theorem five_boxes (h01 : ∀ (x : Fin 2) k, a01 (ix2 x k) = if x.val = 0 then w 0 k else w 1 k)
    (h23 : ∀ (x : Fin 2) k, a23 (ix2 x k) = if x.val = 0 then w 2 k else w 3 k)
    (h4 : ∀ (x : Fin 1) k, a4 (ix2 x k) = w 4 k) (h5 : ∀ (x : Fin 1) k, a5 (ix2 x k) = w 5 k)
    (i : Fin 128) (p : Fin 20) (k : Fin 128) (hc : 128 * p.val + k.val < 2560)
    (L : List (View.Piece (Elt Ideal) S128x2560 .f32)) (hL : View.canon L (ix2 i ⟨128 * p.val + k.val, hc⟩) = (0 : EReal)) :
    View.canon (five (F := Ideal) a01 a23 a4 a5 p.val p.isLt L) (ix2 i ⟨128 * p.val + k.val, hc⟩)
      = Net.spread w i.val p k := by
  have hk := k.isLt
  have hi := i.isLt
  have hp := p.isLt
  have hcol : 128 * p.val ≤ 128 * p.val + k.val ∧ 128 * p.val + k.val < 128 * p.val + 128 := by omega
  have hfin : ∀ h, (⟨128 * p.val + k.val - 128 * p.val, h⟩ : Fin 128) = k := fun h => Fin.ext (Nat.add_sub_cancel_left _ _)
  unfold five
  rw [canon_box]
  by_cases c1 : 120 ≤ i.val ∧ i.val < 120 + 2
  · rw [dif_pos ⟨c1, hcol⟩, neg_box, h01, hfin]
    show (0 : EReal) - (if i.val - 120 = 0 then w 0 k else w 1 k) = _
    unfold Net.spread
    split_ifs <;> first | rfl | (exfalso; omega)
  rw [dif_neg fun h => c1 h.1, canon_box]
  by_cases c2 : 100 + p.val ≤ i.val ∧ i.val < 100 + p.val + 1
  · rw [dif_pos ⟨c2, hcol⟩, box10, h5, hfin]
    unfold Net.spread
    split_ifs <;> first | rfl | (exfalso; omega)
  rw [dif_neg fun h => c2 h.1, canon_box]
  by_cases c3 : 80 + p.val ≤ i.val ∧ i.val < 80 + p.val + 1
  · rw [dif_pos ⟨c3, hcol⟩, box9, h4, hfin]
    unfold Net.spread
    split_ifs <;> first | rfl | (exfalso; omega)
  rw [dif_neg fun h => c3 h.1, canon_box]
  by_cases c4 : 40 + 2 * p.val ≤ i.val ∧ i.val < 40 + 2 * p.val + 2
  · rw [dif_pos ⟨c4, hcol⟩, box8, h23, hfin]
    show (if i.val - (40 + 2 * p.val) = 0 then w 2 k else w 3 k) = _
    unfold Net.spread
    split_ifs <;> first | rfl | (exfalso; omega)
  rw [dif_neg fun h => c4 h.1, canon_box]
  by_cases c5 : 2 * p.val ≤ i.val ∧ i.val < 2 * p.val + 2
  · rw [dif_pos ⟨c5, hcol⟩, box7, h01, hfin]
    show (if i.val - 2 * p.val = 0 then w 0 k else w 1 k) = _
    unfold Net.spread
    split_ifs <;> first | rfl | (exfalso; omega)
  rw [dif_neg fun h => c5 h.1, hL]
  unfold Net.spread
  split_ifs <;> first | rfl | (exfalso; omega)

/-- What the stores of the first `n` points leave: the spread weights in their columns, zero beyond. -/
theorem pieces_apply (h01 : ∀ (x : Fin 2) k, a01 (ix2 x k) = if x.val = 0 then w 0 k else w 1 k)
    (h23 : ∀ (x : Fin 2) k, a23 (ix2 x k) = if x.val = 0 then w 2 k else w 3 k)
    (h4 : ∀ (x : Fin 1) k, a4 (ix2 x k) = w 4 k) (h5 : ∀ (x : Fin 1) k, a5 (ix2 x k) = w 5 k)
    (i : Fin 128) (p : Fin 20) (k : Fin 128) (hc : 128 * p.val + k.val < 2560) (n : ℕ) (hn : n ≤ 20) :
    View.canon (pieces (F := Ideal) a01 a23 a4 a5 n hn) (ix2 i ⟨128 * p.val + k.val, hc⟩)
      = if p.val < n then Net.spread w i.val p k else (0 : EReal) := by
  have hk := k.isLt
  induction n with
  | zero =>
    unfold pieces
    rw [View.canon_unit_zero (by funext x; match x with | ⟨0, _⟩ => rfl | ⟨1, _⟩ => rfl), if_neg (Nat.not_lt_zero _)]
    exact zeros_apply _
  | succ n ih =>
    unfold pieces
    by_cases hp : p.val = n
    · subst hp
      rw [if_pos (Nat.lt_succ_self _)]
      exact five_boxes a01 a23 a4 a5 w h01 h23 h4 h5 i p k hc _ ((ih (by omega)).trans (if_neg (Nat.lt_irrefl _)))
    · have hcol : ¬(128 * n ≤ 128 * p.val + k.val ∧ 128 * p.val + k.val < 128 * n + 128) := by omega
      unfold five
      rw [canon_box, dif_neg fun h => hcol h.2, canon_box, dif_neg fun h => hcol h.2, canon_box, dif_neg fun h => hcol h.2,
        canon_box, dif_neg fun h => hcol h.2, canon_box, dif_neg fun h => hcol h.2, ih]
      by_cases hlt : p.val < n
      · rw [if_pos hlt, if_pos (by omega)]
      · rw [if_neg hlt, if_neg (by omega)]

end Read

end Cert.KernelValue
-- ==== Proof.KernelChain.lean ====
/-
  The body's own terms for the twenty points — it cuts some of them in two — are the stages of `KernelStage`, and its
  running maxima are chains over them.
-/
module

public import proofs.«01_k».proof.Proof.KernelTail

@[expose] public section

noncomputable section

namespace Cert.KernelValue

open Cert.KernelIdeal Cert.KernelIdeal.Gen Idealize.ShloMosaic Idealize.ShloMosaic.TcCoe

/-- Four more terms of a running maximum. -/
def up4 {s : Shape} {φ : FTy} (m a b c d : FVec Ideal s φ) : FVec Ideal s φ :=
  maximumf (maximumf (maximumf (maximumf m a) b) c) d

/-- Three more terms of a running maximum. -/
def up3 {s : Shape} {φ : FTy} (m a b c : FVec Ideal s φ) : FVec Ideal s φ :=
  maximumf (maximumf (maximumf m a) b) c

/-- A chain over twenty terms, written as a first term and then three, four, three, four, four and one more. -/
theorem chain_hidden {s : Shape} {φ : FTy} (f : Fin 20 → FVec Ideal s φ) :
    chain maximumf f 19 (by omega)
      = maximumf (up4 (up4 (up3 (up4 (up3 (f 0) (f 1) (f 2) (f 3)) (f 4) (f 5) (f 6) (f 7)) (f 8) (f 9) (f 10))
          (f 11) (f 12) (f 13) (f 14)) (f 15) (f 16) (f 17) (f 18)) (f 19) := rfl

/-- The same, as a first term and then four times four and three more. -/
theorem chain_result {s : Shape} {φ : FTy} (f : Fin 20 → FVec Ideal s φ) :
    chain maximumf f 19 (by omega)
      = up3 (up4 (up4 (up4 (up4 (f 0) (f 1) (f 2) (f 3) (f 4)) (f 5) (f 6) (f 7) (f 8)) (f 9) (f 10) (f 11) (f 12))
          (f 13) (f 14) (f 15) (f 16)) (f 17) (f 18) (f 19) := rfl

section Hidden

variable (v3 : FVec Ideal S1x128 .f32) (v13 : FVec Ideal S512x20 .f32) (v15 v17 : FVec Ideal S512x40 .f32)
  (v21 : FVec Ideal S512x2 .f32) (v25 : FVec Ideal S128x2560 .f32) (v4 : FVec Ideal S1x128 .f32)
  (v5 : FVec Ideal S128x256 .bf16) (v7 : FVec Ideal S1x256 .f32) (v12 : FVec Ideal S512x20 .f32)
  (v26 : FVec Ideal S512x2560 .f32)

/-- The zero the body rectifies with. -/
abbrev zeroWord : Ideal .f32 := FloatOps.ofBits (F := Ideal) .f32 0x00000000#32

/-- The first point's hidden rows, which the body computes in two pieces. -/
theorem hidden_0 : k0_pay116 v5 v7 v12 (k0_pay115 v3 v13 v15 v17 v21 v25)
    = stageH (k0_pay111 v3) v5 v7 v12 (k0_pay114 v13 v15 v17 v21 v25) 0 := rfl

/-- The other points' hidden rows, in the body's own pieces. -/
def bodyH : Fin 20 → FVec Ideal S512x256 .bf16 :=
  ![stageH v4 v5 v7 v12 v26 0, k0_pay117 v4 v5 v7 v12 v26, k0_pay118 v4 v5 v7 v12 v26, k0_pay119 v4 v5 v7 v12 v26,
    k0_pay122 v5 v7 v12 (k0_pay121 v4 v26) zeroWord, k0_pay123 v4 v5 v7 v12 v26, k0_pay124 v4 v5 v7 v12 v26,
    k0_pay125 v4 v5 v7 v12 v26, k0_pay127 v4 v5 v7 v12 v26, k0_pay128 v4 v5 v7 v12 v26, k0_pay129 v4 v5 v7 v12 v26,
    k0_pay133 (k0_pay131 v4 v5 v7 v26) (k0_pay132 v12), k0_pay134 v4 v5 v7 v12 v26, k0_pay135 v4 v5 v7 v12 v26,
    k0_pay136 v4 v5 v7 v12 v26, k0_pay139 v5 v7 v12 (k0_pay138 v4 v26) (constant S512x256 .f32 0x00000000#32),
    k0_pay140 v4 v5 v7 v12 v26, k0_pay141 v4 v5 v7 v12 v26, k0_pay142 v4 v5 v7 v12 v26,
    k0_pay145 v5 v7 v12 (k0_pay144 v4 v26) zeroWord]

/-- Each of them is the stage of its point. -/
theorem bodyH_eq (p : Fin 20) : bodyH v4 v5 v7 v12 v26 p = stageH v4 v5 v7 v12 v26 p := by
  fin_cases p <;> rfl

/-- The running maximum of the hidden rows after points 0 to 3. -/
theorem max_0_3 : k0_pay120 (k0_pay111 v3) v5 v7 v12 (k0_pay114 v13 v15 v17 v21 v25) (k0_pay115 v3 v13 v15 v17 v21 v25)
    = up3 (bodyH (k0_pay111 v3) v5 v7 v12 (k0_pay114 v13 v15 v17 v21 v25) 0)
        (bodyH (k0_pay111 v3) v5 v7 v12 (k0_pay114 v13 v15 v17 v21 v25) 1)
        (bodyH (k0_pay111 v3) v5 v7 v12 (k0_pay114 v13 v15 v17 v21 v25) 2)
        (bodyH (k0_pay111 v3) v5 v7 v12 (k0_pay114 v13 v15 v17 v21 v25) 3) := rfl

variable (mx : FVec Ideal S512x256 .bf16)

/-- The running maximum of the hidden rows taken on over points 4 to 7. -/
theorem max_4_7 : k0_pay126 v4 v5 v7 v12 v26 mx (k0_pay121 v4 v26) zeroWord
    = up4 mx (bodyH v4 v5 v7 v12 v26 4) (bodyH v4 v5 v7 v12 v26 5) (bodyH v4 v5 v7 v12 v26 6) (bodyH v4 v5 v7 v12 v26 7) := rfl

/-- The running maximum of the hidden rows taken on over points 8 to 10. -/
theorem max_8_10 : k0_pay130 v4 v5 v7 v12 v26 mx
    = up3 mx (bodyH v4 v5 v7 v12 v26 8) (bodyH v4 v5 v7 v12 v26 9) (bodyH v4 v5 v7 v12 v26 10) := rfl

/-- The running maximum of the hidden rows taken on over points 11 to 14. -/
theorem max_11_14 : k0_pay137 v4 v5 v7 v12 v26 mx (k0_pay131 v4 v5 v7 v26) (k0_pay132 v12)
    = up4 mx (bodyH v4 v5 v7 v12 v26 11) (bodyH v4 v5 v7 v12 v26 12) (bodyH v4 v5 v7 v12 v26 13) (bodyH v4 v5 v7 v12 v26 14) := rfl

/-- The running maximum of the hidden rows taken on over points 15 to 18. -/
theorem max_15_18 : k0_pay143 v4 v5 v7 v12 v26 mx (k0_pay138 v4 v26) (constant S512x256 .f32 0x00000000#32)
    = up4 mx (bodyH v4 v5 v7 v12 v26 15) (bodyH v4 v5 v7 v12 v26 16) (bodyH v4 v5 v7 v12 v26 17) (bodyH v4 v5 v7 v12 v26 18) := rfl

/-- The last point enters the maximum, and the pooled rows go through their half of the weights. -/
theorem max_19 (w : FVec Ideal S256x256 .bf16) (b : FVec Ideal S1x256 .f32) :
    k0_pay146 v5 v7 v12 mx (k0_pay144 v4 v26) zeroWord w b = stageB (maximumf mx (bodyH v4 v5 v7 v12 v26 19)) w b := rfl

end Hidden

section Result

variable (v5 : FVec Ideal S128x256 .bf16) (v7 : FVec Ideal S1x256 .f32) (v12 : FVec Ideal S512x20 .f32)
  (a b c d v291 : FVec Ideal S512x256 .bf16) (v294 : FVec Ideal S512x128 .f32) (v306 v307 : FVec Ideal S256x256 .bf16)
  (v309 : FVec Ideal S1x256 .f32) (v312 : FVec Ideal S512x256 .f32) (v313 : FVec Ideal S256x128 .bf16)
  (v314 v315 : FVec Ideal S1x128 .f32) (g : FVec Ideal S512x128 .f32)

/-- The first point's result rows. -/
theorem result_0 : k0_pay148 v5 v7 v12 a v291 v294 zeroWord v306 v307 v309 v313 v314
    = stageG v12 a v306 (k0_pay146 v5 v7 v12 v291 v294 zeroWord v307 v309) v313 (k0_pay147 v314) 0 := rfl

/-- The running maximum of the result rows taken on over points 1 to 4. -/
theorem result_1_4 : k0_pay151 v12 b c d v306 (k0_pay146 v5 v7 v12 v291 v294 zeroWord v307 v309) v313 (k0_pay147 v314) g
      (k0_pay149 v5 v7 v12 a v291 v294 zeroWord v306 v307 v309 v313 v314) (k0_pay150 v12)
    = up4 g (stageG v12 a v306 (k0_pay146 v5 v7 v12 v291 v294 zeroWord v307 v309) v313 (k0_pay147 v314) 1)
        (stageG v12 b v306 (k0_pay146 v5 v7 v12 v291 v294 zeroWord v307 v309) v313 (k0_pay147 v314) 2)
        (stageG v12 c v306 (k0_pay146 v5 v7 v12 v291 v294 zeroWord v307 v309) v313 (k0_pay147 v314) 3)
        (stageG v12 d v306 (k0_pay146 v5 v7 v12 v291 v294 zeroWord v307 v309) v313 (k0_pay147 v314) 4) := rfl

/-- The running maximum of the result rows taken on over points 5 to 8. -/
theorem result_5_8 : k0_pay154 v12 b c d v306 v312 v313 v315 g (k0_pay152 a v306 v312 v313 v315) (k0_pay153 v12)
    = up4 g (stageG v12 a v306 v312 v313 v315 5) (stageG v12 b v306 v312 v313 v315 6)
        (stageG v12 c v306 v312 v313 v315 7) (stageG v12 d v306 v312 v313 v315 8) := rfl

/-- The running maximum of the result rows taken on over points 9 to 12. -/
theorem result_9_12 : k0_pay157 v12 b c d v306 v312 v313 v315 g (k0_pay155 a v306 v312 v313 v315) (k0_pay156 v12)
    = up4 g (stageG v12 a v306 v312 v313 v315 9) (stageG v12 b v306 v312 v313 v315 10)
        (stageG v12 c v306 v312 v313 v315 11) (stageG v12 d v306 v312 v313 v315 12) := rfl

/-- The running maximum of the result rows taken on over points 13 to 16. -/
theorem result_13_16 : k0_pay160 v12 b c d v306 v312 v313 v315 g (k0_pay158 a v306 v312 v313 v315) (k0_pay159 v12)
    = up4 g (stageG v12 a v306 v312 v313 v315 13) (stageG v12 b v306 v312 v313 v315 14)
        (stageG v12 c v306 v312 v313 v315 15) (stageG v12 d v306 v312 v313 v315 16) := rfl

/-- The running maximum of the result rows taken on over points 17 to 19. -/
theorem result_17_19 : k0_pay163 v12 b c v306 v312 v313 v315 g (k0_pay161 a v306 v312 v313 v315) (k0_pay162 v12)
    = up3 g (stageG v12 a v306 v312 v313 v315 17) (stageG v12 b v306 v312 v313 v315 18)
        (stageG v12 c v306 v312 v313 v315 19) := rfl

end Result

end Cert.KernelValue
-- ==== Proof.KernelPoint.lean ====
/-
  What the body leaves at one grid point, in terms of what it finds: the stored block (`blockOf` of the input blocks and
  the scratch arrays), and at the first point the scratch arrays.
-/
module

public import proofs.«01_k».proof.Proof.KernelIdeal.Outs
public import proofs.«01_k».proof.Proof.KernelSpread
public import proofs.«01_k».proof.Proof.KernelChain

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

/-- The stored block, of the input blocks and the five scratch arrays. -/
def blockOf (x0 x1 : Vec Ideal S512x120 .f32) (x2 : Vec Ideal S512x60 .f32) (x3 : Vec Ideal S512x3 .f32)
    (x4 : Vec Ideal S512x20 .i32) (x5 x6 x7 x8 : Vec Ideal S512x1 .i32) (x9 : Vec Ideal S512x1 .f32)
    (x11 : Vec Ideal S1x128 .f32) (x13 : Vec Ideal S1x256 .f32) (x15 : Vec Ideal S1x256 .f32) (x17 : Vec Ideal S1x128 .f32)
    (x18 x19 : Vec Ideal S1x128 .f32) (x20 : Vec Ideal S128x128 .f32) (x21 : Vec Ideal S1x128 .f32)
    (x22 : Vec Ideal S3x128 .f32) (x23 : Vec Ideal S2x128 .f32) (x24 : Vec Ideal S4x128 .f32) (x25 : Vec Ideal S1x128 .f32)
    (w1 : Vec Ideal S128x2560 .f32) (w2 : Vec Ideal S128x256 .bf16) (w3a w3b : Vec Ideal S256x256 .bf16)
    (w4 : Vec Ideal S256x128 .bf16) : FVec Ideal S512x128 .f32 :=
  total x8 x5 x6 x7 x9 x18 x19 x20 x21 x22 x23 x24 x25
    (encoded (View.ld x2 (Rect.unit (s := S512x60) ![0, 0] S512x20.size inb_S512x60_S512x20_0_0))
      (View.ld x0 (Rect.unit (s := S512x120) ![0, 0] S512x40.size inb_S512x120_S512x40_0_0))
      (View.ld x1 (Rect.unit (s := S512x120) ![0, 0] S512x40.size inb_S512x120_S512x40_0_0))
      (View.ld x3 (Rect.unit (s := S512x3) ![0, 0] S512x2.size inb_S512x3_S512x2_0_0))
      w1 x11 w2 x13 x4 w3a w3b x15 w4 x17)

/-- The offset (0, 0) is zero on both axes. -/
theorem off_zero : (![0, 0] : Fin 2 → ℕ) = fun _ => 0 := by
  funext x
  match x with
  | ⟨0, _⟩ => rfl
  | ⟨1, _⟩ => rfl

section Point

variable (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole)
  (hc0 : cond0_0 i) (hn0 : ¬cond0_0 i)
  (x0 : Vec Ideal S512x120 .f32) (x1 : Vec Ideal S512x120 .f32) (x2 : Vec Ideal S512x60 .f32) (x3 : Vec Ideal S512x3 .f32) (x4 : Vec Ideal S512x20 .i32) (x5 : Vec Ideal S512x1 .i32) (x6 : Vec Ideal S512x1 .i32) (x7 : Vec Ideal S512x1 .i32) (x8 : Vec Ideal S512x1 .i32) (x9 : Vec Ideal S512x1 .f32) (x10 : Vec Ideal S6x128 .f32) (x11 : Vec Ideal S1x128 .f32) (x12 : Vec Ideal S128x256 .f32) (x13 : Vec Ideal S1x256 .f32) (x14 : Vec Ideal S512x256 .f32) (x15 : Vec Ideal S1x256 .f32) (x16 : Vec Ideal S256x128 .f32) (x17 : Vec Ideal S1x128 .f32) (x18 : Vec Ideal S1x128 .f32) (x19 : Vec Ideal S1x128 .f32) (x20 : Vec Ideal S128x128 .f32) (x21 : Vec Ideal S1x128 .f32) (x22 : Vec Ideal S3x128 .f32) (x23 : Vec Ideal S2x128 .f32) (x24 : Vec Ideal S4x128 .f32) (x25 : Vec Ideal S1x128 .f32)
  (xs0 : Vec Ideal S128x2560 .f32) (xs1 : Vec Ideal S128x256 .bf16) (xs2 : Vec Ideal S256x256 .bf16) (xs3 : Vec Ideal S256x256 .bf16) (xs4 : Vec Ideal S256x128 .bf16)

/-- The first layer's weights, laid out: what the stores of the twenty points leave. -/
theorem scratch0_first :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = View.canon (pieces (View.ld x10 (Rect.unit (s := S6x128) ![0, 0] S2x128.size inb_S6x128_S2x128_0_0)) (View.ld x10 (Rect.unit (s := S6x128) ![2, 0] S2x128.size inb_S6x128_S2x128_2_0)) (View.ld x10 (Rect.unit (s := S6x128) ![4, 0] S1x128.size inb_S6x128_S1x128_4_0)) (View.ld x10 (Rect.unit (s := S6x128) ![5, 0] S1x128.size inb_S6x128_S1x128_5_0)) 20 (Nat.le_refl 20)) := by
  unfold sout0_A_0
  rw [View.read_writes_junk_eq_canon]
  unfold kernelRun0_A
  dsimp only
  sl_unfold_words
  simp only [View.readAt_eq_ld, Memref.IsWhole.read_unread]
  rfl

/-- The second layer's weights, scaled. -/
theorem scratch1_first :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = k0_pay2 (FloatOps.ofBits (F := Ideal) .f32 0x3F7FFFAC#32) x12 := by
  unfold sout0_A_1
  rw [View.read_writes_junk_eq_canon]
  unfold kernelRun0_A
  dsimp only
  sl_unfold_words
  rw [View.canon_unit_zero off_zero]
  simp only [View.readAt_eq_ld, Memref.IsWhole.read_unread, View.ld_unit_zero (S := S128x256) off_zero, View.ld_unit_zero (S := S256x128) off_zero]

/-- The third layer's first half. -/
theorem scratch2_first :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = k0_pay3 (View.ld x14 (Rect.unit (s := S512x256) ![0, 0] S256x256.size inb_S512x256_S256x256_0_0)) := by
  unfold sout0_A_2
  rw [View.read_writes_junk_eq_canon]
  unfold kernelRun0_A
  dsimp only
  sl_unfold_words
  rw [View.canon_unit_zero off_zero]
  simp only [View.readAt_eq_ld, Memref.IsWhole.read_unread, View.ld_unit_zero (S := S128x256) off_zero, View.ld_unit_zero (S := S256x128) off_zero]

/-- The third layer's second half. -/
theorem scratch3_first :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = k0_pay4 (View.ld x14 (Rect.unit (s := S512x256) ![256, 0] S256x256.size inb_S512x256_S256x256_256_0)) := by
  unfold sout0_A_3
  rw [View.read_writes_junk_eq_canon]
  unfold kernelRun0_A
  dsimp only
  sl_unfold_words
  rw [View.canon_unit_zero off_zero]
  simp only [View.readAt_eq_ld, Memref.IsWhole.read_unread, View.ld_unit_zero (S := S128x256) off_zero, View.ld_unit_zero (S := S256x128) off_zero]

/-- The fourth layer's weights, scaled. -/
theorem scratch4_first :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = k0_pay5 (FloatOps.ofBits (F := Ideal) .f32 0x3F7FFFAC#32) x16 := by
  unfold sout0_A_4
  rw [View.read_writes_junk_eq_canon]
  unfold kernelRun0_A
  dsimp only
  sl_unfold_words
  rw [View.canon_unit_zero off_zero]
  simp only [View.readAt_eq_ld, Memref.IsWhole.read_unread, View.ld_unit_zero (S := S128x256) off_zero, View.ld_unit_zero (S := S256x128) off_zero]

end Point

end Cert.KernelValue
-- ==== Proof.KernelFirst.lean ====
/-
  What the body stores at the first grid point: `blockOf` of the input blocks and the scratch arrays it has just filled.
-/
module

public import proofs.«01_k».proof.Proof.KernelIdeal.Outs
public import proofs.«01_k».proof.Proof.KernelPoint
public import proofs.«01_k».proof.Proof.KernelChain

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

/-- A load of the whole of an array that writes have covered reads what they left. -/
theorem load_all {S : Shape} {κ : Kind} {sp : Space} {e : EltTy} (v : View sig κ sp S e) (L : List (View.Piece (Elt Ideal) S e))
    {off : Fin S.rank → Nat} (h : off = fun _ => 0) (inb : ∀ a, off a + S.size a ≤ S.size a) :
    v.readCov L (Rect.unit off S.size inb).toLoadRect = View.canon L :=
  (View.readCov_eq_canon' v L _).trans (View.ld_unit_zero h inb (View.canon L))

section Point

variable (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole)
  (hc0 : cond0_0 i)
  (x0 : Vec Ideal S512x120 .f32) (x1 : Vec Ideal S512x120 .f32) (x2 : Vec Ideal S512x60 .f32) (x3 : Vec Ideal S512x3 .f32) (x4 : Vec Ideal S512x20 .i32) (x5 : Vec Ideal S512x1 .i32) (x6 : Vec Ideal S512x1 .i32) (x7 : Vec Ideal S512x1 .i32) (x8 : Vec Ideal S512x1 .i32) (x9 : Vec Ideal S512x1 .f32) (x10 : Vec Ideal S6x128 .f32) (x11 : Vec Ideal S1x128 .f32) (x12 : Vec Ideal S128x256 .f32) (x13 : Vec Ideal S1x256 .f32) (x14 : Vec Ideal S512x256 .f32) (x15 : Vec Ideal S1x256 .f32) (x16 : Vec Ideal S256x128 .f32) (x17 : Vec Ideal S1x128 .f32) (x18 : Vec Ideal S1x128 .f32) (x19 : Vec Ideal S1x128 .f32) (x20 : Vec Ideal S128x128 .f32) (x21 : Vec Ideal S1x128 .f32) (x22 : Vec Ideal S3x128 .f32) (x23 : Vec Ideal S2x128 .f32) (x24 : Vec Ideal S4x128 .f32) (x25 : Vec Ideal S1x128 .f32)

/-- At the first point: the block over the scratch arrays it has filled. -/
theorem block_first :
    out0_A_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25
      = blockOf x0 x1 x2 x3 x4 x5 x6 x7 x8 x9 x11 x13 x15 x17 x18 x19 x20 x21 x22 x23 x24 x25 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25) (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25) := by
  rw [scratch1_first, scratch2_first, scratch3_first, scratch4_first]
  generalize hs0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 x18 x19 x20 x21 x22 x23 x24 x25 = xs0
  unfold sout0_A_0 at hs0
  rw [View.read_writes_junk_eq_canon] at hs0
  unfold kernelRun0_A at hs0
  dsimp only at hs0
  revert hs0
  sl_unfold_words
  intro hs0
  simp only [View.readAt_eq_ld, Memref.IsWhole.read_unread] at hs0
  unfold out0_A_26
  rw [View.read_writes_junk_eq_canon]
  unfold kernelRun0_A
  dsimp only
  sl_unfold_words
  rw [View.canon_unit_zero off_zero]
  simp only [load_all (S := S128x2560) _ _ off_zero, load_all (S := S128x256) _ _ off_zero, load_all (S := S256x256) _ _ off_zero, load_all (S := S256x128) _ _ off_zero, View.readAt_eq_ld, Memref.IsWhole.read_unread]
  simp only [hs0, View.canon_unit_zero (S := S128x256) off_zero, View.canon_unit_zero (S := S256x256) off_zero, View.canon_unit_zero (S := S256x128) off_zero, View.readAt_eq_ld, Memref.IsWhole.read_unread, View.ld_unit_zero (S := S512x20) off_zero, View.ld_unit_zero (S := S512x1) off_zero, View.ld_unit_zero (S := S1x128) off_zero, View.ld_unit_zero (S := S1x256) off_zero, View.ld_unit_zero (S := S128x128) off_zero, View.ld_unit_zero (S := S3x128) off_zero, View.ld_unit_zero (S := S2x128) off_zero, View.ld_unit_zero (S := S4x128) off_zero, View.ld_unit_zero (S := S128x2560) off_zero, View.ld_unit_zero (S := S128x256) off_zero, View.ld_unit_zero (S := S256x256) off_zero, View.ld_unit_zero (S := S256x128) off_zero]
  simp only [result_17_19, result_13_16, result_9_12, result_5_8, result_1_4, result_0, max_19, max_15_18, max_11_14,
    max_8_10, max_4_7, max_0_3]
  unfold blockOf total encoded hiddens
  simp only [← bodyH_eq]
  rw [chain_result, chain_hidden]
  rfl

end Point

end Cert.KernelValue
-- ==== Proof.KernelLater.lean ====
/-
  What the body stores at every grid point but the first: `blockOf` of the input blocks and the scratch arrays as found.
-/
module

public import proofs.«01_k».proof.Proof.KernelIdeal.Outs
public import proofs.«01_k».proof.Proof.KernelPoint
public import proofs.«01_k».proof.Proof.KernelChain

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

section Point

variable (c : Dev nD) (i : grid0.Coords) (arg1 : Memref sig .tc .vmem S512x120 .f32) (harg1 : arg1.IsWhole) (arg2 : Memref sig .tc .vmem S512x120 .f32) (harg2 : arg2.IsWhole) (arg3 : Memref sig .tc .vmem S512x60 .f32) (harg3 : arg3.IsWhole) (arg4 : Memref sig .tc .vmem S512x3 .f32) (harg4 : arg4.IsWhole) (arg5 : Memref sig .tc .vmem S512x20 .i32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S512x1 .f32) (harg10 : arg10.IsWhole) (arg11 : Memref sig .tc .vmem S6x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S3x128 .f32) (harg23 : arg23.IsWhole) (arg24 : Memref sig .tc .vmem S2x128 .f32) (harg24 : arg24.IsWhole) (arg25 : Memref sig .tc .vmem S4x128 .f32) (harg25 : arg25.IsWhole) (arg26 : Memref sig .tc .vmem S1x128 .f32) (harg26 : arg26.IsWhole) (arg27 : Memref sig .tc .vmem S512x128 .f32) (harg27 : arg27.IsWhole) (arg28 : Memref sig .tc .vmem S128x2560 .f32) (harg28 : arg28.IsWhole) (arg29 : Memref sig .tc .vmem S128x256 .bf16) (harg29 : arg29.IsWhole) (arg30 : Memref sig .tc .vmem S256x256 .bf16) (harg30 : arg30.IsWhole) (arg31 : Memref sig .tc .vmem S256x256 .bf16) (harg31 : arg31.IsWhole) (arg32 : Memref sig .tc .vmem S256x128 .bf16) (harg32 : arg32.IsWhole)
  (hn0 : ¬cond0_0 i)
  (x0 : Vec Ideal S512x120 .f32) (x1 : Vec Ideal S512x120 .f32) (x2 : Vec Ideal S512x60 .f32) (x3 : Vec Ideal S512x3 .f32) (x4 : Vec Ideal S512x20 .i32) (x5 : Vec Ideal S512x1 .i32) (x6 : Vec Ideal S512x1 .i32) (x7 : Vec Ideal S512x1 .i32) (x8 : Vec Ideal S512x1 .i32) (x9 : Vec Ideal S512x1 .f32) (x10 : Vec Ideal S6x128 .f32) (x11 : Vec Ideal S1x128 .f32) (x12 : Vec Ideal S128x256 .f32) (x13 : Vec Ideal S1x256 .f32) (x14 : Vec Ideal S512x256 .f32) (x15 : Vec Ideal S1x256 .f32) (x16 : Vec Ideal S256x128 .f32) (x17 : Vec Ideal S1x128 .f32) (x18 : Vec Ideal S1x128 .f32) (x19 : Vec Ideal S1x128 .f32) (x20 : Vec Ideal S128x128 .f32) (x21 : Vec Ideal S1x128 .f32) (x22 : Vec Ideal S3x128 .f32) (x23 : Vec Ideal S2x128 .f32) (x24 : Vec Ideal S4x128 .f32) (x25 : Vec Ideal S1x128 .f32)
  (xs0 : Vec Ideal S128x2560 .f32) (xs1 : Vec Ideal S128x256 .bf16) (xs2 : Vec Ideal S256x256 .bf16) (xs3 : Vec Ideal S256x256 .bf16) (xs4 : Vec Ideal S256x128 .bf16)

/-- At every point but the first: the block over the scratch arrays as found. -/
theorem block_later :
    out0_B_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hn0 x0 x1 x2 x3 x4 x5 x6 x7 x8 x9 x10 x11 x12 x13 x14 x15 x16 x17 x18 x19 x20 x21 x22 x23 x24 x25 xs0 xs1 xs2 xs3 xs4
      = blockOf x0 x1 x2 x3 x4 x5 x6 x7 x8 x9 x11 x13 x15 x17 x18 x19 x20 x21 x22 x23 x24 x25 xs0 xs1 xs2 xs3 xs4 := by
  unfold out0_B_26
  rw [View.read_writes_junk_eq_canon]
  unfold kernelRun0_B
  dsimp only
  sl_unfold_words
  rw [View.canon_unit_zero off_zero]
  simp only [View.readAt_eq_ld, Memref.IsWhole.read_unread, View.ld_unit_zero (S := S512x20) off_zero, View.ld_unit_zero (S := S512x1) off_zero, View.ld_unit_zero (S := S1x128) off_zero, View.ld_unit_zero (S := S1x256) off_zero, View.ld_unit_zero (S := S128x128) off_zero, View.ld_unit_zero (S := S3x128) off_zero, View.ld_unit_zero (S := S2x128) off_zero, View.ld_unit_zero (S := S4x128) off_zero, View.ld_unit_zero (S := S128x2560) off_zero, View.ld_unit_zero (S := S128x256) off_zero, View.ld_unit_zero (S := S256x256) off_zero, View.ld_unit_zero (S := S256x128) off_zero]
  simp only [result_17_19, result_13_16, result_9_12, result_5_8, result_1_4, result_0, max_19, max_15_18, max_11_14,
    max_8_10, max_4_7, max_0_3]
  unfold blockOf total encoded hiddens
  simp only [← bodyH_eq]
  rw [chain_result, chain_hidden]
  rfl

end Point

end Cert.KernelValue
-- ==== Proof.KernelBlocks.lean ====
/-
  What the kernel's input windows hold at a grid point, in terms of the arrays they are cut from: windows 10 to 25 hold
  the whole array at every point, windows 0 to 9 hold 512 consecutive rows.
-/
module

public import proofs.«01_k».proof.Proof.KernelIdeal.Outs
public import Idealize.ShloMosaic.PureOps.Ideal
public import Idealize.ShloMosaic.Lib.Pointwise

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- Two entries of an array at indices with equal coordinates are equal. -/
theorem at_index {S : Shape} {α : Type} (X : S.Idx → α) (i j : S.Idx) (h : ∀ a, (i a).val = (j a).val) : X i = X j :=
  congrArg X (funext fun a => Fin.ext (h a))

/-- A two-dimensional window at block (0, 0) of its own array is the array. -/
theorem at_whole {S : Shape} {α : Type} (X : S.Idx → α) (i j : S.Idx) (s : Fin S.rank → ℕ)
    (h : ∀ a, (i a).val = 0 * s a + 1 * (j a).val) : X i = X j :=
  at_index X i j fun a => by rw [h a]; omega

/-- The grid coordinate of a point is its number. -/
theorem coord_val : ∀ t : Fin cfg0.N, (BitVec.ofNat 32 ((grid0.coords t) 0).val).toNat = t.val :=
  (by decide +kernel : ∀ t : Fin grid0.N, _)

/-- The windows with one block read their array whole at every point. -/
theorem whole_reads (t : Fin cfg0.N) :
    (∀ X : Vec Ideal S6x128 .f32, ((cfg0.win 10).blk t).view.read (Elt Ideal) X = X)
    ∧ (∀ X : Vec Ideal S1x128 .f32, ((cfg0.win 11).blk t).view.read (Elt Ideal) X = X)
    ∧ (∀ X : Vec Ideal S128x256 .f32, ((cfg0.win 12).blk t).view.read (Elt Ideal) X = X)
    ∧ (∀ X : Vec Ideal S1x256 .f32, ((cfg0.win 13).blk t).view.read (Elt Ideal) X = X)
    ∧ (∀ X : Vec Ideal S512x256 .f32, ((cfg0.win 14).blk t).view.read (Elt Ideal) X = X)
    ∧ (∀ X : Vec Ideal S1x256 .f32, ((cfg0.win 15).blk t).view.read (Elt Ideal) X = X)
    ∧ (∀ X : Vec Ideal S256x128 .f32, ((cfg0.win 16).blk t).view.read (Elt Ideal) X = X)
    ∧ (∀ X : Vec Ideal S1x128 .f32, ((cfg0.win 17).blk t).view.read (Elt Ideal) X = X)
    ∧ (∀ X : Vec Ideal S1x128 .f32, ((cfg0.win 18).blk t).view.read (Elt Ideal) X = X)
    ∧ (∀ X : Vec Ideal S1x128 .f32, ((cfg0.win 19).blk t).view.read (Elt Ideal) X = X)
    ∧ (∀ X : Vec Ideal S128x128 .f32, ((cfg0.win 20).blk t).view.read (Elt Ideal) X = X)
    ∧ (∀ X : Vec Ideal S1x128 .f32, ((cfg0.win 21).blk t).view.read (Elt Ideal) X = X)
    ∧ (∀ X : Vec Ideal S3x128 .f32, ((cfg0.win 22).blk t).view.read (Elt Ideal) X = X)
    ∧ (∀ X : Vec Ideal S2x128 .f32, ((cfg0.win 23).blk t).view.read (Elt Ideal) X = X)
    ∧ (∀ X : Vec Ideal S4x128 .f32, ((cfg0.win 24).blk t).view.read (Elt Ideal) X = X)
    ∧ (∀ X : Vec Ideal S1x128 .f32, ((cfg0.win 25).blk t).view.read (Elt Ideal) X = X) := by
  refine ⟨?_, ?_, ?_, ?_, ?_, ?_, ?_, ?_, ?_, ?_, ?_, ?_, ?_, ?_, ?_, ?_⟩
  all_goals
    intro X
    funext y
    rw [View.read_apply]
    refine at_whole X _ _ (fun _ => 0) (Fin.forall_fin_two.2 ⟨?_, ?_⟩)
    · show 0 * _ + 1 * (y 0).val = _
      omega
    · show 0 * _ + 1 * (y 1).val = _
      omega

/-- The row of the array that row `r` of block `t` is. -/
theorem row_lt (t : Fin cfg0.N) (r : Fin 512) : t.val * 512 + r.val < 4096 := by
  have := t.isLt; have h : cfg0.N = 8 := N_0; have := r.isLt; omega

/-- The windows cut by rows: entry (r, j) of block `t` is entry (512·t + r, j) of the array. -/
theorem row_reads (t : Fin cfg0.N) (r : Fin 512) :
    (∀ (X : Vec Ideal S4096x120 .f32) (j : Fin 120), (((cfg0.win 0).blk t).view.read (Elt Ideal) X : Vec Ideal S512x120 .f32) (ix2 r j) = X (ix2 ⟨t.val * 512 + r.val, row_lt t r⟩ j))
    ∧ (∀ (X : Vec Ideal S4096x120 .f32) (j : Fin 120), (((cfg0.win 1).blk t).view.read (Elt Ideal) X : Vec Ideal S512x120 .f32) (ix2 r j) = X (ix2 ⟨t.val * 512 + r.val, row_lt t r⟩ j))
    ∧ (∀ (X : Vec Ideal S4096x60 .f32) (j : Fin 60), (((cfg0.win 2).blk t).view.read (Elt Ideal) X : Vec Ideal S512x60 .f32) (ix2 r j) = X (ix2 ⟨t.val * 512 + r.val, row_lt t r⟩ j))
    ∧ (∀ (X : Vec Ideal S4096x3 .f32) (j : Fin 3), (((cfg0.win 3).blk t).view.read (Elt Ideal) X : Vec Ideal S512x3 .f32) (ix2 r j) = X (ix2 ⟨t.val * 512 + r.val, row_lt t r⟩ j))
    ∧ (∀ (X : Vec Ideal S4096x20 .i32) (j : Fin 20), (((cfg0.win 4).blk t).view.read (Elt Ideal) X : Vec Ideal S512x20 .i32) (ix2 r j) = X (ix2 ⟨t.val * 512 + r.val, row_lt t r⟩ j))
    ∧ (∀ (X : Vec Ideal S4096x1 .i32) (j : Fin 1), (((cfg0.win 5).blk t).view.read (Elt Ideal) X : Vec Ideal S512x1 .i32) (ix2 r j) = X (ix2 ⟨t.val * 512 + r.val, row_lt t r⟩ j))
    ∧ (∀ (X : Vec Ideal S4096x1 .i32) (j : Fin 1), (((cfg0.win 6).blk t).view.read (Elt Ideal) X : Vec Ideal S512x1 .i32) (ix2 r j) = X (ix2 ⟨t.val * 512 + r.val, row_lt t r⟩ j))
    ∧ (∀ (X : Vec Ideal S4096x1 .i32) (j : Fin 1), (((cfg0.win 7).blk t).view.read (Elt Ideal) X : Vec Ideal S512x1 .i32) (ix2 r j) = X (ix2 ⟨t.val * 512 + r.val, row_lt t r⟩ j))
    ∧ (∀ (X : Vec Ideal S4096x1 .i32) (j : Fin 1), (((cfg0.win 8).blk t).view.read (Elt Ideal) X : Vec Ideal S512x1 .i32) (ix2 r j) = X (ix2 ⟨t.val * 512 + r.val, row_lt t r⟩ j))
    ∧ (∀ (X : Vec Ideal S4096x1 .f32) (j : Fin 1), (((cfg0.win 9).blk t).view.read (Elt Ideal) X : Vec Ideal S512x1 .f32) (ix2 r j) = X (ix2 ⟨t.val * 512 + r.val, row_lt t r⟩ j)) := by
  refine ⟨?_, ?_, ?_, ?_, ?_, ?_, ?_, ?_, ?_, ?_⟩
  all_goals
    intro X j
    rw [View.read_apply]
    refine at_index X _ _ (Fin.forall_fin_two.2 ⟨?_, ?_⟩)
    · show (BitVec.ofNat 32 ((grid0.coords t) 0).val).toNat * 512 + 1 * r.val = t.val * 512 + r.val
      rw [coord_val t]; omega
    · show 0 * _ + 1 * j.val = j.val
      omega

/-- The windows with one block hold their whole array at every point. -/
theorem whole_blocks (t : Fin cfg0.N) :
    iblk m c 10 t = V m c main_arg11
    ∧ iblk m c 11 t = V m c main_v10
    ∧ iblk m c 12 t = V m c main_arg13
    ∧ iblk m c 13 t = V m c main_v11
    ∧ iblk m c 14 t = V m c main_arg15
    ∧ iblk m c 15 t = V m c main_v12
    ∧ iblk m c 16 t = V m c main_arg17
    ∧ iblk m c 17 t = V m c main_v13
    ∧ iblk m c 18 t = V m c main_arg19
    ∧ iblk m c 19 t = V m c main_v14
    ∧ iblk m c 20 t = V m c main_arg21
    ∧ iblk m c 21 t = V m c main_v15
    ∧ iblk m c 22 t = V m c main_arg23
    ∧ iblk m c 23 t = V m c main_arg24
    ∧ iblk m c 24 t = V m c main_arg25
    ∧ iblk m c 25 t = V m c main_arg26 := by
  obtain ⟨h10, h11, h12, h13, h14, h15, h16, h17, h18, h19, h20, h21, h22, h23, h24, h25⟩ := whole_reads t
  exact ⟨h10 _, h11 _, h12 _, h13 _, h14 _, h15 _, h16 _, h17 _, h18 _, h19 _, h20 _, h21 _, h22 _, h23 _, h24 _, h25 _⟩

/-- The windows cut by rows, over the arrays they are cut from. -/
theorem row_blocks (t : Fin cfg0.N) (r : Fin 512) :
    (∀ j : Fin 120, iblk m c 0 t (ix2 r j) = V m c main_v0 (ix2 ⟨t.val * 512 + r.val, row_lt t r⟩ j))
    ∧ (∀ j : Fin 120, iblk m c 1 t (ix2 r j) = V m c main_v1 (ix2 ⟨t.val * 512 + r.val, row_lt t r⟩ j))
    ∧ (∀ j : Fin 60, iblk m c 2 t (ix2 r j) = V m c main_v2 (ix2 ⟨t.val * 512 + r.val, row_lt t r⟩ j))
    ∧ (∀ j : Fin 3, iblk m c 3 t (ix2 r j) = V m c main_v3 (ix2 ⟨t.val * 512 + r.val, row_lt t r⟩ j))
    ∧ (∀ j : Fin 20, iblk m c 4 t (ix2 r j) = V m c main_v16 (ix2 ⟨t.val * 512 + r.val, row_lt t r⟩ j))
    ∧ (∀ j : Fin 1, iblk m c 5 t (ix2 r j) = V m c main_v5 (ix2 ⟨t.val * 512 + r.val, row_lt t r⟩ j))
    ∧ (∀ j : Fin 1, iblk m c 6 t (ix2 r j) = V m c main_v6 (ix2 ⟨t.val * 512 + r.val, row_lt t r⟩ j))
    ∧ (∀ j : Fin 1, iblk m c 7 t (ix2 r j) = V m c main_v7 (ix2 ⟨t.val * 512 + r.val, row_lt t r⟩ j))
    ∧ (∀ j : Fin 1, iblk m c 8 t (ix2 r j) = V m c main_v17 (ix2 ⟨t.val * 512 + r.val, row_lt t r⟩ j))
    ∧ (∀ j : Fin 1, iblk m c 9 t (ix2 r j) = V m c main_v9 (ix2 ⟨t.val * 512 + r.val, row_lt t r⟩ j)) := by
  obtain ⟨h0, h1, h2, h3, h4, h5, h6, h7, h8, h9⟩ := row_reads t r
  exact ⟨fun j => h0 _ j, fun j => h1 _ j, fun j => h2 _ j, fun j => h3 _ j, fun j => h4 _ j, fun j => h5 _ j, fun j => h6 _ j, fun j => h7 _ j, fun j => h8 _ j, fun j => h9 _ j⟩

end Cert.KernelValue
-- ==== Proof.KernelGrid.lean ====
/-
  What the kernel leaves over the grid: the scratch arrays hold the same contents after every point, and each point stores
  `blockOf` of its input blocks over them.
-/
module

public import proofs.«01_k».proof.Proof.KernelIdeal.Outs
public import proofs.«01_k».proof.Proof.KernelFirst
public import proofs.«01_k».proof.Proof.KernelLater
public import proofs.«01_k».proof.Proof.KernelBlocks

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The five scratch arrays once filled, from the first layer's weights and the three other weight matrices. -/
def filled (w1 : Vec Ideal S6x128 .f32) (w2 : Vec Ideal S128x256 .f32) (w3 : Vec Ideal S512x256 .f32) (w4 : Vec Ideal S256x128 .f32) :
    Vec Ideal S128x2560 .f32 × Vec Ideal S128x256 .bf16 × Vec Ideal S256x256 .bf16 × Vec Ideal S256x256 .bf16 × Vec Ideal S256x128 .bf16 :=
  (View.canon (pieces (View.ld w1 (Rect.unit (s := S6x128) ![0, 0] S2x128.size inb_S6x128_S2x128_0_0))
      (View.ld w1 (Rect.unit (s := S6x128) ![2, 0] S2x128.size inb_S6x128_S2x128_2_0))
      (View.ld w1 (Rect.unit (s := S6x128) ![4, 0] S1x128.size inb_S6x128_S1x128_4_0))
      (View.ld w1 (Rect.unit (s := S6x128) ![5, 0] S1x128.size inb_S6x128_S1x128_5_0)) 20 (Nat.le_refl 20)),
    k0_pay2 (FloatOps.ofBits (F := Ideal) .f32 0x3F7FFFAC#32) w2,
    k0_pay3 (View.ld w3 (Rect.unit (s := S512x256) ![0, 0] S256x256.size inb_S512x256_S256x256_0_0)),
    k0_pay4 (View.ld w3 (Rect.unit (s := S512x256) ![256, 0] S256x256.size inb_S512x256_S256x256_256_0)),
    k0_pay5 (FloatOps.ofBits (F := Ideal) .f32 0x3F7FFFAC#32) w4)

/-- What the point stores, over given scratch arrays. -/
def stored (t : Fin cfg0.N) (s : Vec Ideal S128x2560 .f32 × Vec Ideal S128x256 .bf16 × Vec Ideal S256x256 .bf16 × Vec Ideal S256x256 .bf16 × Vec Ideal S256x128 .bf16) :
    FVec Ideal S512x128 .f32 :=
  blockOf (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 13 t) (iblk m c 15 t) (iblk m c 17 t) (iblk m c 18 t) (iblk m c 19 t) (iblk m c 20 t) (iblk m c 21 t) (iblk m c 22 t) (iblk m c 23 t) (iblk m c 24 t) (iblk m c 25 t)
    s.1 s.2.1 s.2.2.1 s.2.2.2.1 s.2.2.2.2

/-- The first point fills the scratch arrays and stores `blockOf` over them. -/
theorem first_point (t : Fin cfg0.N) (h0 : t.val % 8 = 0) :
    outsAt0 m c t.val t.isLt
      = (stored m c t (filled (iblk m c 10 t) (iblk m c 12 t) (iblk m c 14 t) (iblk m c 16 t)),
          filled (iblk m c 10 t) (iblk m c 12 t) (iblk m c 14 t) (iblk m c 16 t)) := by
  rw [outsAt0_A m c t h0,
    block_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t),
    scratch0_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t),
    scratch1_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t),
    scratch2_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t),
    scratch3_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t),
    scratch4_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)]
  rfl

/-- Every later point stores `blockOf` over the scratch arrays the point before left, and leaves them. -/
theorem later_point (t : Fin cfg0.N) (h0 : ¬t.val % 8 = 0) :
    outsAt0 m c t.val t.isLt
      = (stored m c t (outsAt0 m c (t.val - 1) (Nat.lt_of_le_of_lt (Nat.sub_le t.val 1) t.isLt)).2,
          (outsAt0 m c (t.val - 1) (Nat.lt_of_le_of_lt (Nat.sub_le t.val 1) t.isLt)).2) := by
  rw [outsAt0_B m c t h0,
    block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2]
  rfl

/-- After every point the scratch arrays are the filled ones. -/
theorem scratch_filled : ∀ (n : ℕ) (hn : n < cfg0.N), (outsAt0 m c n hn).2
    = filled (V m c main_arg11) (V m c main_arg13) (V m c main_arg15) (V m c main_arg17)
  | 0, hn => by
    obtain ⟨h10, -, h12, -, h14, -, h16, -⟩ := whole_blocks m c ⟨0, hn⟩
    rw [← h10, ← h12, ← h14, ← h16]
    exact congrArg Prod.snd (first_point m c ⟨0, hn⟩ rfl)
  | n + 1, hn => by
    have hN : cfg0.N = 8 := N_0
    exact (congrArg Prod.snd (later_point m c ⟨n + 1, hn⟩ (by dsimp only; omega))).trans
      (scratch_filled n (Nat.lt_of_succ_lt hn))

/-- Each point stores `blockOf` of its input blocks over the filled scratch arrays. -/
theorem block_at (t : Fin cfg0.N) : (outsAt0 m c t.val t.isLt).1
    = stored m c t (filled (V m c main_arg11) (V m c main_arg13) (V m c main_arg15) (V m c main_arg17)) := by
  by_cases h0 : t.val % 8 = 0
  · obtain ⟨h10, -, h12, -, h14, -, h16, -⟩ := whole_blocks m c t
    rw [← h10, ← h12, ← h14, ← h16, first_point m c t h0]
  · rw [later_point m c t h0, scratch_filled]

end Cert.KernelValue
-- ==== Proof.KernelRun.lean ====
/-
  Which grid point writes a row of the result: entry (512·t + r, d) of what the run leaves is entry (r, d) of what point
  `t` stores.
-/
module

public import proofs.«01_k».proof.Proof.KernelIdeal.Value
public import proofs.«01_k».proof.Proof.KernelGrid

@[expose] public section

set_option maxRecDepth 16384
set_option maxHeartbeats 1000000

noncomputable section

namespace Cert.KernelValue

open Cert.KernelIdeal Cert.KernelIdeal.Gen Cert.KernelIdeal.Value Idealize.ShloMosaic Idealize.ShloMosaic.TcCoe

variable (m : (ℓ : Loc nD τ sig) → Buf (Elt Ideal) ℓ) (c : Dev nD)

/-- Row 512·t + r of the result is row r of what point t stores. -/
theorem result_row (t : Fin cfg0.N) (r : Fin 512) (d : Fin 128) :
    G26 m c (ix2 (⟨t.val * 512 + r.val, row_lt t r⟩ : Fin 4096) d)
      = stored m c t (filled (V m c main_arg11) (V m c main_arg13) (V m c main_arg15) (V m c main_arg17)) (ix2 r d) := by
  have hp : pt26Of (ix2 (⟨t.val * 512 + r.val, row_lt t r⟩ : Fin 4096) d) = t.val := by
    show 1 * ((t.val * 512 + r.val) / 512 - 0) + 1 * (d.val / 128 - 0) = t.val
    have := r.isLt; have := d.isLt
    omega
  have hl : loc26Of (ix2 (⟨t.val * 512 + r.val, row_lt t r⟩ : Fin 4096) d) = ix2 r d := by
    refine funext (Fin.forall_fin_two.2 ⟨Fin.ext ?_, Fin.ext ?_⟩)
    · show (t.val * 512 + r.val) % 512 = r.val
      have := r.isLt
      omega
    · show d.val % 128 = d.val
      have := d.isLt
      omega
  rw [← block_at m c t, outsAt0_sweep m c t.val t.isLt]
  unfold G26
  rw [dif_pos (by rw [hp]; exact t.isLt), hl, fold0_congr m c _ _ _ _ hp]

end Cert.KernelValue
-- ==== Proof.KernelHost.lean ====
/-
  What the arrays the kernel's windows are cut from hold: each is one of the program's arguments, reshaped.
-/
module

public import proofs.«01_k».proof.Proof.KernelIdeal.Outs
public import Idealize.ShloMosaic.PureOps.Ideal
public import Idealize.ShloMosaic.Lib.Pointwise

@[expose] public section

set_option maxRecDepth 16384
set_option maxHeartbeats 4000000

noncomputable section

namespace Cert.KernelValue

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The reshaped arrays, as the host leaves them. -/
theorem host_reshapes :
    V m c main_v0 = shapeCast S4096x120 (m ((c : Thread nD τ).loc main_arg6)) shapeCasts_S32x128x3x20x2_S4096x120
    ∧ V m c main_v1 = shapeCast S4096x120 (m ((c : Thread nD τ).loc main_arg7)) shapeCasts_S32x128x3x20x2_S4096x120
    ∧ V m c main_v2 = shapeCast S4096x60 (m ((c : Thread nD τ).loc main_arg8)) shapeCasts_S32x128x3x20_S4096x60
    ∧ V m c main_v3 = shapeCast S4096x3 (m ((c : Thread nD τ).loc main_arg0)) shapeCasts_S32x128x3_S4096x3
    ∧ V m c main_v5 = shapeCast S4096x1 (m ((c : Thread nD τ).loc main_arg1)) shapeCasts_S32x128_S4096x1
    ∧ V m c main_v6 = shapeCast S4096x1 (m ((c : Thread nD τ).loc main_arg2)) shapeCasts_S32x128_S4096x1
    ∧ V m c main_v7 = shapeCast S4096x1 (m ((c : Thread nD τ).loc main_arg3)) shapeCasts_S32x128_S4096x1
    ∧ V m c main_v9 = shapeCast S4096x1 (m ((c : Thread nD τ).loc main_arg5)) shapeCasts_S32x128_S4096x1
    ∧ V m c main_v10 = shapeCast S1x128 (m ((c : Thread nD τ).loc main_arg12)) shapeCasts_S128_S1x128
    ∧ V m c main_v11 = shapeCast S1x256 (m ((c : Thread nD τ).loc main_arg14)) shapeCasts_S256_S1x256
    ∧ V m c main_v12 = shapeCast S1x256 (m ((c : Thread nD τ).loc main_arg16)) shapeCasts_S256_S1x256
    ∧ V m c main_v13 = shapeCast S1x128 (m ((c : Thread nD τ).loc main_arg18)) shapeCasts_S128_S1x128
    ∧ V m c main_v14 = shapeCast S1x128 (m ((c : Thread nD τ).loc main_arg20)) shapeCasts_S128_S1x128
    ∧ V m c main_v15 = shapeCast S1x128 (m ((c : Thread nD τ).loc main_arg22)) shapeCasts_S128_S1x128 := by
  refine ⟨?_, ?_, ?_, ?_, ?_, ?_, ?_, ?_, ?_, ?_, ?_, ?_, ?_, ?_⟩
  all_goals
    unfold V
    after_results
    rfl

/-- The two arrays of bits, reshaped and widened. -/
theorem host_bits :
    V m c main_v16 = extui 32 (shapeCast S4096x20 (m ((c : Thread nD τ).loc main_arg10)) shapeCasts_S32x128x20_S4096x20) natLt_1_32
    ∧ V m c main_v17 = extui 32 (shapeCast S4096x1 (m ((c : Thread nD τ).loc main_arg4)) shapeCasts_S32x128_S4096x1) natLt_1_32 := by
  refine ⟨?_, ?_⟩
  all_goals
    unfold V
    after_results
    rfl

end Cert.KernelValue
-- ==== Proof.RefEncoder.lean ====
/-
  The reference's encoder read at one entry: the features, the two layers of each network and the two maxima, each as
  `Cert.Net` states it.
-/
module

public import proofs.«01_k».proof.Proof.Net
public import proofs.«01_k».proof.Proof.Gen.ReferenceIdeal.Read
public import Idealize.ShloMosaic.Lib.Pointwise

@[expose] public section

noncomputable section

namespace Cert.RefValue

open Cert.ReferenceIdeal Cert.ReferenceIdeal.Gen Cert.ReferenceIdeal.Read Idealize.ShloMosaic Idealize.ShloMosaic.TcCoe

variable (x0 : (⟨S32x128x3, .f32⟩ : BufTy).Contents (Elt Ideal))
  (x6 x7 : (⟨S32x128x3x20x2, .f32⟩ : BufTy).Contents (Elt Ideal))
  (x8 : (⟨S32x128x3x20, .f32⟩ : BufTy).Contents (Elt Ideal))
  (x10 : (⟨S32x128x20, .i1⟩ : BufTy).Contents (Elt Ideal))
  (x11 : (⟨S6x128, .f32⟩ : BufTy).Contents (Elt Ideal))
  (x12 : (⟨S128, .f32⟩ : BufTy).Contents (Elt Ideal))
  (x13 : (⟨S128x256, .f32⟩ : BufTy).Contents (Elt Ideal))
  (x14 : (⟨S256, .f32⟩ : BufTy).Contents (Elt Ideal))
  (x15 : (⟨S512x256, .f32⟩ : BufTy).Contents (Elt Ideal))
  (x16 : (⟨S256, .f32⟩ : BufTy).Contents (Elt Ideal))
  (x17 : (⟨S256x128, .f32⟩ : BufTy).Contents (Elt Ideal))
  (x18 : (⟨S128, .f32⟩ : BufTy).Contents (Elt Ideal))

/-- Polygon `n`'s batch and its place in the batch. -/
def bat (n : Fin 4096) : Fin 32 := ⟨n / 128, by have := n.isLt; omega⟩

/-- Polygon `n`'s place in its batch. -/
def pos (n : Fin 4096) : Fin 128 := ⟨n % 128, Nat.mod_lt _ (by omega)⟩

/-- The six features of point `p` of polygon `n`. -/
def featOf (n : Fin 4096) (p : Fin 20) : Fin 6 → EReal :=
  Net.feat (fun j => x6 (ix5 (bat n) (pos n) (0 : Fin 3) p j)) (fun j => x7 (ix5 (bat n) (pos n) (0 : Fin 3) p j))
    (fun j => x0 (ix3 (bat n) (pos n) (⟨j, by have := j.isLt; omega⟩ : Fin 3)))
    (Ideal.cos (x8 (ix4 (bat n) (pos n) (0 : Fin 3) p))) (Ideal.sin (x8 (ix4 (bat n) (pos n) (0 : Fin 3) p)))

/-- Feature e of point p of polygon n. -/
theorem features_apply (n : Fin 4096) (p : Fin 20) (e : Fin 6) :
    val_main_v17 (F := Ideal) x0 x6 x7 x8 (ix3 n p e) = featOf x0 x6 x7 x8 n p e := by
  pointwise [val_main_v17, val_main_v15, val_main_v9, val_main_v3, val_main_v14, val_main_v12, val_main_v13, val_main_v10, val_main_v11, val_main_v8, val_main_v7, val_main_v6, val_main_v5, val_main_v4, val_main_v2, val_main_v1, val_main_v0]
  fin_cases e <;> rfl

/-- The first layer before its batch norm. -/
def firstOf (n : Fin 4096) (p : Fin 20) (k : Fin 128) : EReal :=
  Net.dotRow (featOf x0 x6 x7 x8 n p) (fun i j => x11 (ix2 i j)) k + x12 (ix1 k)

/-- The first layer before its scale, at point p and channel k. -/
theorem first_apply (n : Fin 4096) (p : Fin 20) (k : Fin 128) :
    val_main_v23 (F := Ideal) x0 x6 x7 x8 x11 x12 (ix3 n p k) = firstOf x0 x6 x7 x8 x11 x12 n p k := by
  pointwise [val_main_v23, val_main_v20, val_main_v21, val_main_v22]
  simp only [features_apply]
  rfl

/-- The mask as a number. -/
def maskOf (n : Fin 4096) (p : Fin 20) : EReal :=
  FloatOps.uitofp (F := Ideal) .f32 (x10 (ix3 (bat n) (pos n) p))

/-- The mask as a number. -/
theorem mask_apply (n : Fin 4096) (p : Fin 20) (j : Fin 1) :
    val_main_v19 (F := Ideal) x10 (ix3 n p j) = maskOf x10 n p := by
  pointwise [val_main_v19, val_main_v18, val_main_v16]
  rfl

/-- The batch-norm factor both programs hold: the f32 number nearest to one over the square root of 1 + 1e-5. -/
def bn : EReal := Ideal.ofBits .f32 0x3F7FFFAC#32

/-- The hidden rows. -/
def hiddenOf (n : Fin 4096) : Fin 20 → Fin 256 → EReal :=
  Net.hidden bn (firstOf x0 x6 x7 x8 x11 x12 n) (maskOf x10 n) (fun i j => x13 (ix2 i j)) (fun j => x14 (ix1 j))

/-- The masked second layer at point p and channel j. -/
theorem hidden_apply (n : Fin 4096) (p : Fin 20) (j : Fin 256) :
    val_main_v32 (F := Ideal) x0 x6 x7 x8 x10 x11 x12 x13 x14 (ix3 n p j)
      = hiddenOf x0 x6 x7 x8 x10 x11 x12 x13 x14 n p j := by
  pointwise [val_main_v32, val_main_v31, val_main_v30, val_main_v29, val_main_v28, val_main_v27, val_main_v26, val_main_v25, val_main_v24, val_main_cst, val_main_call0_v0, val_main_call0_cst]
  simp only [first_apply, mask_apply]
  rfl

/-- The word of minus infinity is the bottom of the extended reals. -/
theorem neg_inf : Ideal.ofBits .f32 0xFF800000#32 = (⊥ : EReal) := by
  simp [Ideal.ofBits, Ideal.ieee, -EReal.coe_mul]

/-- A maximum folded from the bottom over the points is the pooled value. -/
theorem fold_pool (f : Fin 20 → EReal) : Finset.univ.fold max (⊥ : EReal) f = Net.pool f := rfl

/-- The pooled second layer. -/
theorem pooled_apply (n : Fin 4096) (j : Fin 256) :
    val_main_v33 (F := Ideal) x0 x6 x7 x8 x10 x11 x12 x13 x14 (ix2 n j)
      = Net.pool fun p => hiddenOf x0 x6 x7 x8 x10 x11 x12 x13 x14 n p j := by
  pointwise [val_main_v33, val_main_cst_0]
  simp only [hidden_apply, neg_inf]
  rfl

/-- The joined features through the third layer's weights, with its bias. -/
theorem joined_apply (n : Fin 4096) (p : Fin 20) (j : Fin 256) :
    val_main_v40 (F := Ideal) x0 x6 x7 x8 x10 x11 x12 x13 x14 x15 x16 (ix3 n p j)
      = Net.joined (hiddenOf x0 x6 x7 x8 x10 x11 x12 x13 x14 n)
          (fun i j => x15 (ix2 (⟨i, by have := i.isLt; omega⟩ : Fin 512) j))
          (fun i j => x15 (ix2 (⟨256 + i, by have := i.isLt; omega⟩ : Fin 512) j)) (fun j => x16 (ix1 j)) p j := by
  pointwise [val_main_v40, val_main_v39, val_main_v38, val_main_v37, val_main_v36, val_main_v35, val_main_v34]
  simp only [hidden_apply, pooled_apply]
  rfl

/-- The encoder's row: the pooled second network. -/
def encodedOf (n : Fin 4096) (d : Fin 128) : EReal :=
  Net.encode bn (firstOf x0 x6 x7 x8 x11 x12 n) (maskOf x10 n) (fun i j => x13 (ix2 i j)) (fun j => x14 (ix1 j))
    (fun i j => x15 (ix2 (⟨i, by have := i.isLt; omega⟩ : Fin 512) j))
    (fun i j => x15 (ix2 (⟨256 + i, by have := i.isLt; omega⟩ : Fin 512) j)) (fun j => x16 (ix1 j))
    (fun i j => x17 (ix2 i j)) (fun j => x18 (ix1 j)) d

/-- The masked fourth layer at point p and channel d. -/
theorem second_apply (n : Fin 4096) (p : Fin 20) (d : Fin 128) :
    val_main_v49 (F := Ideal) x0 x6 x7 x8 x10 x11 x12 x13 x14 x15 x16 x17 x18 (ix3 n p d)
      = (Net.dotRow (fun j => Net.relu (Net.joined (hiddenOf x0 x6 x7 x8 x10 x11 x12 x13 x14 n)
          (fun i j => x15 (ix2 (⟨i, by have := i.isLt; omega⟩ : Fin 512) j))
          (fun i j => x15 (ix2 (⟨256 + i, by have := i.isLt; omega⟩ : Fin 512) j)) (fun j => x16 (ix1 j)) p j * bn))
          (fun i j => x17 (ix2 i j)) d + x18 (ix1 d)) * maskOf x10 n p := by
  pointwise [val_main_v49, val_main_v48, val_main_v47, val_main_v46, val_main_v45, val_main_v44, val_main_v43, val_main_v42, val_main_v41, val_main_cst_1, val_main_call1_v0, val_main_call1_cst]
  simp only [joined_apply, mask_apply]
  rfl

/-- The encoder's row of polygon n. -/
theorem encoded_apply (n : Fin 4096) (d : Fin 128) :
    val_main_v50 (F := Ideal) x0 x6 x7 x8 x10 x11 x12 x13 x14 x15 x16 x17 x18 (ix2 n d)
      = encodedOf x0 x6 x7 x8 x10 x11 x12 x13 x14 x15 x16 x17 x18 n d := by
  pointwise [val_main_v50, val_main_cst_2]
  simp only [second_apply, neg_inf]
  rfl

end Cert.RefValue
-- ==== Proof.KernelEntry.lean ====
/-
  Entries of what the kernel's blocks and scratch arrays are made of: reshapes of the program's arguments, the columns a
  block is loaded by, and the filled scratch arrays.
-/
module

public import proofs.«01_k».proof.Proof.KernelSpread
public import proofs.«01_k».proof.Proof.RefEncoder
public import Idealize.ShloMosaic.Lib.Pipeline.ValueKit.Tiles

@[expose] public section

set_option maxRecDepth 16384
set_option maxHeartbeats 1000000

noncomputable section

namespace Cert.KernelValue

open Cert.KernelIdeal Cert.KernelIdeal.Gen Idealize.ShloMosaic Idealize.ShloMosaic.TcCoe Idealize.ShloMosaic.Tactic
open Cert.RefValue (bat pos)

/-! ## Reshaped arguments -/

/-- Entry (n, 2·p + j) of the flattened pairs is coordinate j of point p of the first of the three groups. -/
theorem cast_pairs {α : Type} (a : S32x128x3x20x2.Idx → α) (n : Fin 4096) (p : Fin 20) (j : Fin 2) (h : 2 * p.val + j.val < 120) :
    shapeCast S4096x120 a shapeCasts_S32x128x3x20x2_S4096x120 (ix2 n ⟨2 * p.val + j.val, h⟩)
      = a (ix5 (bat n) (pos n) (0 : Fin 3) p j) := by
  have e : (⟨(2 * p.val + j.val) / 40, by omega⟩ : Fin 3) = 0 := Fin.ext (by show (2 * p.val + j.val) / 40 = 0; omega)
  pointwise []
  rw [← e]
  rfl

/-- Entry (n, p) of the flattened orientations is point p of the first of the three groups. -/
theorem cast_points {α : Type} (a : S32x128x3x20.Idx → α) (n : Fin 4096) (p : Fin 20) (h : p.val < 60) :
    shapeCast S4096x60 a shapeCasts_S32x128x3x20_S4096x60 (ix2 n ⟨p.val, h⟩) = a (ix4 (bat n) (pos n) (0 : Fin 3) p) := by
  have e : (⟨p.val / 20, by omega⟩ : Fin 3) = 0 := Fin.ext (by show p.val / 20 = 0; omega)
  have e' : (⟨p.val % 20, by omega⟩ : Fin 20) = p := Fin.ext (by show p.val % 20 = p.val; omega)
  pointwise []
  exact congrArg a (congrArg₂ (fun x y => ix4 (bat n) (pos n) x y) e e')

/-- Entry (n, j) of the flattened centres. -/
theorem cast_centre {α : Type} (a : S32x128x3.Idx → α) (n : Fin 4096) (j : Fin 3) :
    shapeCast S4096x3 a shapeCasts_S32x128x3_S4096x3 (ix2 n j) = a (ix3 (bat n) (pos n) j) := by
  pointwise []
  rfl

/-- Entry (n, p) of the flattened mask. -/
theorem cast_mask {α : Type} (a : S32x128x20.Idx → α) (n : Fin 4096) (p : Fin 20) :
    shapeCast S4096x20 a shapeCasts_S32x128x20_S4096x20 (ix2 n p) = a (ix3 (bat n) (pos n) p) := by
  pointwise []
  rfl

/-- Entry n of an array over the polygons, made a column. -/
theorem cast_column {α : Type} (a : S32x128.Idx → α) (n : Fin 4096) :
    shapeCast S4096x1 a shapeCasts_S32x128_S4096x1 (ix2 n (0 : Fin 1)) = a (ix2 (bat n) (pos n)) := by
  pointwise []
  rfl

/-- Entry k of a vector of 128, made a row. -/
theorem cast_row {α : Type} (a : S128.Idx → α) (k : Fin 128) :
    shapeCast S1x128 a shapeCasts_S128_S1x128 (ix2 (0 : Fin 1) k) = a (ix1 k) := by
  pointwise []

/-- Entry k of a vector of 256, made a row. -/
theorem cast_wide_row {α : Type} (a : S256.Idx → α) (k : Fin 256) :
    shapeCast S1x256 a shapeCasts_S256_S1x256 (ix2 (0 : Fin 1) k) = a (ix1 k) := by
  pointwise []

/-! ## Columns and rows of a block -/

/-- The first 40 columns of a block of pairs. -/
theorem ld_pairs (x : Vec Ideal S512x120 .f32) (r : Fin 512) (j : Fin 40) :
    View.ld x (Rect.unit (s := S512x120) ![0, 0] S512x40.size inb_S512x120_S512x40_0_0) (ix2 r j)
      = x (ix2 r (⟨j.val, by omega⟩ : Fin 120)) :=
  View.ld_unit_apply_of x _ _ _ _ _ (Fin.forall_fin_two.2 ⟨(Nat.zero_add _).symm, (Nat.zero_add _).symm⟩)

/-- The first 20 columns of a block of orientations. -/
theorem ld_points (x : Vec Ideal S512x60 .f32) (r : Fin 512) (p : Fin 20) :
    View.ld x (Rect.unit (s := S512x60) ![0, 0] S512x20.size inb_S512x60_S512x20_0_0) (ix2 r p)
      = x (ix2 r (⟨p.val, by omega⟩ : Fin 60)) :=
  View.ld_unit_apply_of x _ _ _ _ _ (Fin.forall_fin_two.2 ⟨(Nat.zero_add _).symm, (Nat.zero_add _).symm⟩)

/-- The first two columns of a block of centres. -/
theorem ld_centre (x : Vec Ideal S512x3 .f32) (r : Fin 512) (j : Fin 2) :
    View.ld x (Rect.unit (s := S512x3) ![0, 0] S512x2.size inb_S512x3_S512x2_0_0) (ix2 r j)
      = x (ix2 r (⟨j.val, by omega⟩ : Fin 3)) :=
  View.ld_unit_apply_of x _ _ _ _ _ (Fin.forall_fin_two.2 ⟨(Nat.zero_add _).symm, (Nat.zero_add _).symm⟩)

/-! ## The filled scratch arrays -/

/-- The first layer's spread weights: every entry of the 128 by 2560 matrix. -/
theorem spread_apply (w1 : Vec Ideal S6x128 .f32) (i : Fin 128) (p : Fin 20) (k : Fin 128) (h : 128 * p.val + k.val < 2560) :
    View.canon (pieces (F := Ideal) (View.ld w1 (Rect.unit (s := S6x128) ![0, 0] S2x128.size inb_S6x128_S2x128_0_0))
      (View.ld w1 (Rect.unit (s := S6x128) ![2, 0] S2x128.size inb_S6x128_S2x128_2_0))
      (View.ld w1 (Rect.unit (s := S6x128) ![4, 0] S1x128.size inb_S6x128_S1x128_4_0))
      (View.ld w1 (Rect.unit (s := S6x128) ![5, 0] S1x128.size inb_S6x128_S1x128_5_0)) 20 (Nat.le_refl 20))
        (ix2 i ⟨128 * p.val + k.val, h⟩)
      = Net.spread (fun i k => w1 (ix2 i k)) i.val p k := by
  rw [pieces_apply (w := fun i k => w1 (ix2 i k)) _ _ _ _ _ _ _ _ i p k h 20 (Nat.le_refl 20), if_pos p.isLt]
  · intro x k
    fin_cases x <;> exact View.ld_unit_apply_of w1 _ _ _ _ _ (Fin.forall_fin_two.2 ⟨rfl, (Nat.zero_add _).symm⟩)
  · intro x k
    fin_cases x <;> exact View.ld_unit_apply_of w1 _ _ _ _ _ (Fin.forall_fin_two.2 ⟨rfl, (Nat.zero_add _).symm⟩)
  · intro x k
    fin_cases x; exact View.ld_unit_apply_of w1 _ _ _ _ _ (Fin.forall_fin_two.2 ⟨rfl, (Nat.zero_add _).symm⟩)
  · intro x k
    fin_cases x; exact View.ld_unit_apply_of w1 _ _ _ _ _ (Fin.forall_fin_two.2 ⟨rfl, (Nat.zero_add _).symm⟩)

/-- The second layer's weights, scaled. -/
theorem scaled2_apply (s : EReal) (w : Vec Ideal S128x256 .f32) (i : Fin 128) (j : Fin 256) :
    k0_pay2 (F := Ideal) s w (ix2 i j) = w (ix2 i j) * s := by
  pointwise [k0_pay2]

/-- The fourth layer's weights, scaled. -/
theorem scaled4_apply (s : EReal) (w : Vec Ideal S256x128 .f32) (i : Fin 256) (j : Fin 128) :
    k0_pay5 (F := Ideal) s w (ix2 i j) = w (ix2 i j) * s := by
  pointwise [k0_pay5]

/-- The upper half of the third layer's weights. -/
theorem upper3_apply (w : Vec Ideal S512x256 .f32) (i j : Fin 256) :
    k0_pay3 (F := Ideal) (View.ld w (Rect.unit (s := S512x256) ![0, 0] S256x256.size inb_S512x256_S256x256_0_0)) (ix2 i j)
      = w (ix2 (⟨i, by have := i.isLt; omega⟩ : Fin 512) j) := by
  have e : k0_pay3 (F := Ideal) (View.ld w (Rect.unit (s := S512x256) ![0, 0] S256x256.size inb_S512x256_S256x256_0_0)) (ix2 i j)
      = View.ld w (Rect.unit (s := S512x256) ![0, 0] S256x256.size inb_S512x256_S256x256_0_0) (ix2 i j) := by
    pointwise [k0_pay3]
  rw [e]
  exact View.ld_unit_apply_of w _ _ _ _ _ (Fin.forall_fin_two.2 ⟨(Nat.zero_add _).symm, (Nat.zero_add _).symm⟩)

/-- The lower half of the third layer's weights. -/
theorem lower3_apply (w : Vec Ideal S512x256 .f32) (i j : Fin 256) :
    k0_pay4 (F := Ideal) (View.ld w (Rect.unit (s := S512x256) ![256, 0] S256x256.size inb_S512x256_S256x256_256_0)) (ix2 i j)
      = w (ix2 (⟨256 + i, by have := i.isLt; omega⟩ : Fin 512) j) := by
  have e : k0_pay4 (F := Ideal) (View.ld w (Rect.unit (s := S512x256) ![256, 0] S256x256.size inb_S512x256_S256x256_256_0)) (ix2 i j)
      = View.ld w (Rect.unit (s := S512x256) ![256, 0] S256x256.size inb_S512x256_S256x256_256_0) (ix2 i j) := by
    pointwise [k0_pay4]
  rw [e]
  exact View.ld_unit_apply_of w _ _ _ _ _ (Fin.forall_fin_two.2 ⟨rfl, (Nat.zero_add _).symm⟩)

end Cert.KernelValue
-- ==== Proof.RefTables.lean ====
/-
  The reference's other rows read at one entry: the three class tables' rows (for classes in range), the speed
  network's row or the unknown row, and the whole result.
-/
module

public import proofs.«01_k».proof.Proof.RefEncoder
public import Idealize.ShloMosaic.Lib.ValueIdxCore

@[expose] public section

noncomputable section

namespace Cert.RefValue

open Cert.ReferenceIdeal Cert.ReferenceIdeal.Gen Cert.ReferenceIdeal.Read Idealize.ShloMosaic Idealize.ShloMosaic.TcCoe

section Pick

/-- The dimension numbers of a row pick out of an `[N, D]` table at an `[R, C]` array of row numbers. -/
abbrev pickDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A row pick read at `(b, q, d)`: the row the start index names, clamped into the table, at column `d`. -/
theorem pick_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (q : Fin C) (d : Fin D) :
    Host.gather (pickDims N D R C wf) x idx (ix3 b q d)
      = x (ix2 (⟨min (idx (ix3 b q (0 : Fin 1))).toInt.toNat (N - 1), by omega⟩ : Fin N) d) := by
  unfold Host.gather
  congr 1
  funext a
  refine Fin.ext ?_
  show (pickDims N D R C wf).start (ix3 b q d) idx a + (pickDims N D R C wf).batchCoord (ix3 b q d) a
      + (pickDims N D R C wf).offCoord (ix3 b q d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (pickDims N D R C wf).startIndexMap from List.mem_singleton.mpr rfl)]
    have hsi : (pickDims N D R C wf).siIdx (ix3 b q d) ⟨List.idxOf (0 : Fin 2) (pickDims N D R C wf).startIndexMap,
        List.idxOf_lt_length_iff.2 (List.mem_singleton.mpr rfl)⟩ = ix3 b q (0 : Fin 1) := by
      funext c; refine Fin.ext ?_
      match c with
      | ⟨0, _⟩ => rfl
      | ⟨1, _⟩ => rfl
      | ⟨2, _⟩ => rfl
    rw [hsi]
    rfl
  · unfold GatherDims.start
    rw [dif_neg (show ¬(1 : Fin 2) ∈ (pickDims N D R C wf).startIndexMap from
      fun h => absurd (congrArg Fin.val (List.mem_singleton.mp h)) Nat.one_ne_zero), Nat.zero_add]
    unfold GatherDims.offCoord
    rw [dif_pos ((GatherDims.mem_sKept _ _).mpr ⟨fun h => absurd (congrArg Fin.val (List.mem_singleton.mp h)) Nat.one_ne_zero, List.not_mem_nil⟩)]
    rfl

/-- A class below four is one of four words. -/
theorem small {t : BitVec 32} (h : t.toNat < 4) : t = 0#32 ∨ t = 1#32 ∨ t = 2#32 ∨ t = 3#32 := by
  have : t.toNat = 0 ∨ t.toNat = 1 ∨ t.toNat = 2 ∨ t.toNat = 3 := by omega
  rcases this with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

/-- A class number below 4 is not negative. -/
theorem small_sge {t : BitVec 32} (h : t.toNat < 4) : IntOp.cmpi .sge t 0#32 = 1#1 := by
  rcases small h with rfl | rfl | rfl | rfl <;> rfl

/-- A class number below 4 is not below 0. -/
theorem small_slt {t : BitVec 32} (h : t.toNat < 4) : IntOp.cmpi .slt t 0#32 = 0#1 := by
  rcases small h with rfl | rfl | rfl | rfl <;> rfl

/-- A class number below n + 1 is at most n. -/
theorem small_sle {t : BitVec 32} (n : Nat) (hn : n < 4) (h : t.toNat < n + 1) :
    IntOp.cmpi .sle t (BitVec.ofNat 32 n) = 1#1 := by
  rcases small (t := t) (by omega) with rfl | rfl | rfl | rfl <;>
    (have : n = 0 ∨ n = 1 ∨ n = 2 ∨ n = 3 := by omega) <;> rcases this with rfl | rfl | rfl | rfl <;>
    first | rfl | (exfalso; revert h; decide)

/-- An "and" over one entry from `1`, the entry `1`. -/
theorem fold_unit (f : Fin 1 → BitVec 1) (h : f 0 = 1#1) : Finset.univ.fold IntOp.andi 1#1 f = 1#1 := by
  rw [Finset.univ_unique, Finset.fold_singleton]
  show IntOp.andi (f 0) 1#1 = 1#1
  rw [h]
  rfl

/-- A class number below 4 is the same number signed and unsigned. -/
theorem small_toInt {t : BitVec 32} (h : t.toNat < 4) : t.toInt.toNat = t.toNat := by
  rcases small h with rfl | rfl | rfl | rfl <;> rfl

/-- A row pick at a class in range: the class's row. -/
theorem pick_small {α : Type} {N D R C : Nat} (hN : N ≤ 4)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (b : Fin R) (q : Fin C) (d : Fin D)
    {t : BitVec 32} (ht : idx (ix3 b q (0 : Fin 1)) = t) (h : t.toNat < N) :
    Host.gather (pickDims N D R C wf) x idx (ix3 b q d) = x (ix2 (⟨t.toNat, h⟩ : Fin N) d) := by
  rw [pick_apply (by omega)]
  congr 2
  refine Fin.ext ?_
  show min (idx (ix3 b q (0 : Fin 1))).toInt.toNat (N - 1) = t.toNat
  rw [ht, small_toInt (by omega)]
  exact Nat.min_eq_left (by omega)

end Pick

variable (x1 x2 x3 : (⟨S32x128, .i32⟩ : BufTy).Contents (Elt Ideal))
  (x4 : (⟨S32x128, .i1⟩ : BufTy).Contents (Elt Ideal))
  (x5 : (⟨S32x128, .f32⟩ : BufTy).Contents (Elt Ideal))
  (x19 : (⟨S1x128, .f32⟩ : BufTy).Contents (Elt Ideal))
  (x20 : (⟨S128, .f32⟩ : BufTy).Contents (Elt Ideal))
  (x21 : (⟨S128x128, .f32⟩ : BufTy).Contents (Elt Ideal))
  (x22 : (⟨S128, .f32⟩ : BufTy).Contents (Elt Ideal))
  (x23 : (⟨S3x128, .f32⟩ : BufTy).Contents (Elt Ideal))
  (x24 : (⟨S2x128, .f32⟩ : BufTy).Contents (Elt Ideal))
  (x25 : (⟨S4x128, .f32⟩ : BufTy).Contents (Elt Ideal))
  (x26 : (⟨S1x128, .f32⟩ : BufTy).Contents (Elt Ideal))

/-- The picked row of the type table is row `x1` of it, for a class in range. -/
theorem type_apply (b : Fin 32) (q d : Fin 128) (h : (x1 (ix2 b q)).toNat < 3) :
    val_main_v52 (F := Ideal) x1 x23 (ix3 b q d) = x23 (ix2 (⟨(x1 (ix2 b q)).toNat, h⟩ : Fin 3) d) := by
  have h4 : (x1 (ix2 b q)).toNat < 4 := by omega
  have hv5 : val_main_call2_v5 (F := Ideal) x1 (ix3 b q (0 : Fin 1)) = x1 (ix2 b q) := by
    pointwise [val_main_call2_v5, val_main_call2_v4, val_main_call2_v1, val_main_call2_v0, val_main_call2_c]
    rw [small_slt h4]
    rfl
  have hg : val_main_call2_v13 (F := Ideal) x1 x23 (ix3 b q d) = x23 (ix2 (⟨(x1 (ix2 b q)).toNat, h⟩ : Fin 3) d) :=
    pick_small (by omega) _ x23 _ b q d hv5 h
  have hc : val_main_call2_v14 (F := Ideal) x1 (ix3 b q d) = 1#1 := by
    pointwise [val_main_call2_v14, val_main_call2_v12, val_main_call2_v11, val_main_call2_v10, val_main_call2_v9, val_main_call2_v8, val_main_call2_v7, val_main_call2_v6, val_main_call2_c_1, val_main_call2_c_2, val_main_call2_c_3]
    refine fold_unit _ ?_
    simp only [hv5]
    rw [small_sge h4, small_sle 2 (by omega) h]
    rfl
  rw [val_main_v52_apply, hc, hg]
  rfl

/-- The picked row of the route table is row `x2` of it, for a class in range. -/
theorem route_apply (b : Fin 32) (q d : Fin 128) (h : (x2 (ix2 b q)).toNat < 2) :
    val_main_v53 (F := Ideal) x2 x24 (ix3 b q d) = x24 (ix2 (⟨(x2 (ix2 b q)).toNat, h⟩ : Fin 2) d) := by
  have h4 : (x2 (ix2 b q)).toNat < 4 := by omega
  have hv5 : val_main_call3_v5 (F := Ideal) x2 (ix3 b q (0 : Fin 1)) = x2 (ix2 b q) := by
    pointwise [val_main_call3_v5, val_main_call3_v4, val_main_call3_v1, val_main_call3_v0, val_main_call3_c]
    rw [small_slt h4]
    rfl
  have hg : val_main_call3_v13 (F := Ideal) x2 x24 (ix3 b q d) = x24 (ix2 (⟨(x2 (ix2 b q)).toNat, h⟩ : Fin 2) d) :=
    pick_small (by omega) _ x24 _ b q d hv5 h
  have hc : val_main_call3_v14 (F := Ideal) x2 (ix3 b q d) = 1#1 := by
    pointwise [val_main_call3_v14, val_main_call3_v12, val_main_call3_v11, val_main_call3_v10, val_main_call3_v9, val_main_call3_v8, val_main_call3_v7, val_main_call3_v6, val_main_call3_c_1, val_main_call3_c_2, val_main_call3_c_3]
    refine fold_unit _ ?_
    simp only [hv5]
    rw [small_sge h4, small_sle 1 (by omega) h]
    rfl
  rw [val_main_v53_apply, hc, hg]
  rfl

/-- The picked row of the traffic light table is row `x3` of it, for a class in range. -/
theorem light_apply (b : Fin 32) (q d : Fin 128) (h : (x3 (ix2 b q)).toNat < 4) :
    val_main_v54 (F := Ideal) x3 x25 (ix3 b q d) = x25 (ix2 (⟨(x3 (ix2 b q)).toNat, h⟩ : Fin 4) d) := by
  have h4 : (x3 (ix2 b q)).toNat < 4 := by omega
  have hv5 : val_main_call4_v5 (F := Ideal) x3 (ix3 b q (0 : Fin 1)) = x3 (ix2 b q) := by
    pointwise [val_main_call4_v5, val_main_call4_v4, val_main_call4_v1, val_main_call4_v0, val_main_call4_c]
    rw [small_slt h4]
    rfl
  have hg : val_main_call4_v13 (F := Ideal) x3 x25 (ix3 b q d) = x25 (ix2 (⟨(x3 (ix2 b q)).toNat, h⟩ : Fin 4) d) :=
    pick_small (by omega) _ x25 _ b q d hv5 h
  have hc : val_main_call4_v14 (F := Ideal) x3 (ix3 b q d) = 1#1 := by
    pointwise [val_main_call4_v14, val_main_call4_v12, val_main_call4_v11, val_main_call4_v10, val_main_call4_v9, val_main_call4_v8, val_main_call4_v7, val_main_call4_v6, val_main_call4_c_1, val_main_call4_c_2, val_main_call4_c_3]
    refine fold_unit _ ?_
    simp only [hv5]
    rw [small_sge h4, small_sle 3 (by omega) h]
    rfl
  rw [val_main_v54_apply, hc, hg]
  rfl

/-- The speed network's row. -/
def speedNet (s : EReal) (d : Fin 128) : EReal :=
  Net.dotRow (fun k : Fin 128 => Net.relu (s * x19 (ix2 (0 : Fin 1) k) + x20 (ix1 k))) (fun i j => x21 (ix2 i j)) d
    + x22 (ix1 d)

/-- The reference's speed row at polygon (b, q), channel d. -/
theorem speed_apply (b : Fin 32) (q d : Fin 128) :
    val_main_v67 (F := Ideal) x4 x5 x19 x20 x21 x22 x26 (ix3 b q d)
      = Scalar.select (x4 (ix2 b q)) (speedNet x19 x20 x21 x22 (x5 (ix2 b q)) d) (x26 (ix2 (0 : Fin 1) d)) := by
  pointwise [val_main_v67, val_main_v66, val_main_call6_v1, val_main_call6_v0, val_main_v65, val_main_v64, val_main_v63, val_main_v62, val_main_v61, val_main_v60, val_main_v59, val_main_v58, val_main_v57, val_main_v56, val_main_v55, val_main_call5_v0, val_main_call5_cst]
  simp only [Finset.univ_unique, Finset.sum_singleton]
  rfl

variable (x0 : (⟨S32x128x3, .f32⟩ : BufTy).Contents (Elt Ideal))
  (x6 x7 : (⟨S32x128x3x20x2, .f32⟩ : BufTy).Contents (Elt Ideal))
  (x8 : (⟨S32x128x3x20, .f32⟩ : BufTy).Contents (Elt Ideal))
  (x10 : (⟨S32x128x20, .i1⟩ : BufTy).Contents (Elt Ideal))
  (x11 : (⟨S6x128, .f32⟩ : BufTy).Contents (Elt Ideal))
  (x12 : (⟨S128, .f32⟩ : BufTy).Contents (Elt Ideal))
  (x13 : (⟨S128x256, .f32⟩ : BufTy).Contents (Elt Ideal))
  (x14 : (⟨S256, .f32⟩ : BufTy).Contents (Elt Ideal))
  (x15 : (⟨S512x256, .f32⟩ : BufTy).Contents (Elt Ideal))
  (x16 : (⟨S256, .f32⟩ : BufTy).Contents (Elt Ideal))
  (x17 : (⟨S256x128, .f32⟩ : BufTy).Contents (Elt Ideal))
  (x18 : (⟨S128, .f32⟩ : BufTy).Contents (Elt Ideal))

/-- The reference's result at polygon `n`, channel `d`: the encoder's row, the three class rows, and the speed row or
    the unknown row. -/
theorem result_apply (n : Fin 4096) (d : Fin 128) (h1 : (x1 (ix2 (bat n) (pos n))).toNat < 3)
    (h2 : (x2 (ix2 (bat n) (pos n))).toNat < 2) (h3 : (x3 (ix2 (bat n) (pos n))).toNat < 4) :
    val_main_v72 (F := Ideal) x0 x1 x2 x3 x4 x5 x6 x7 x8 x10 x11 x12 x13 x14 x15 x16 x17 x18 x19 x20 x21 x22 x23 x24 x25 x26
        (ix2 n d)
      = (((encodedOf x0 x6 x7 x8 x10 x11 x12 x13 x14 x15 x16 x17 x18 n d
          + x23 (ix2 (⟨(x1 (ix2 (bat n) (pos n))).toNat, h1⟩ : Fin 3) d))
          + x24 (ix2 (⟨(x2 (ix2 (bat n) (pos n))).toNat, h2⟩ : Fin 2) d))
          + x25 (ix2 (⟨(x3 (ix2 (bat n) (pos n))).toNat, h3⟩ : Fin 4) d))
        + Scalar.select (x4 (ix2 (bat n) (pos n))) (speedNet x19 x20 x21 x22 (x5 (ix2 (bat n) (pos n))) d)
            (x26 (ix2 (0 : Fin 1) d)) := by
  have e72 : idx_main_v72 (ix2 n d) = ix3 (bat n) (pos n) d := by
    have hd := d.isLt
    funext a
    match a with
    | ⟨0, _⟩ => exact Fin.ext (show (n.val * 128 + d.val) / 16384 = n.val / 128 by omega)
    | ⟨1, _⟩ => exact Fin.ext (show (n.val * 128 + d.val) / 128 % 128 = n.val % 128 by omega)
    | ⟨2, _⟩ => exact Fin.ext (show (n.val * 128 + d.val) % 128 = d.val by omega)
  have e51 : idx_main_v51 (ix3 (bat n) (pos n) d) = ix2 n d := by
    have hd := d.isLt
    funext a
    match a with
    | ⟨0, _⟩ => exact Fin.ext (show ((n.val / 128 * 128 + n.val % 128) * 128 + d.val) / 128 = n.val by omega)
    | ⟨1, _⟩ => exact Fin.ext (show ((n.val / 128 * 128 + n.val % 128) * 128 + d.val) % 128 = d.val by omega)
  rw [val_main_v72_apply, e72, val_main_v71_apply, val_main_v70_apply, val_main_v69_apply, val_main_v68_apply,
    val_main_v51_apply, e51, encoded_apply, type_apply _ _ _ _ _ h1, route_apply _ _ _ _ _ h2, light_apply _ _ _ _ _ h3,
    speed_apply]
  rfl

end Cert.RefValue
-- ==== Proof.KernelRow.lean ====
/-
  One row of a block, in terms of the program's arguments: if the input blocks and the scratch arrays hold the entries the
  arguments give them, then entry (r, d) of what the body stores is the reference's entry (n, d).
-/
module

public import proofs.«01_k».proof.Proof.KernelPoint
public import proofs.«01_k».proof.Proof.KernelEntry
public import proofs.«01_k».proof.Proof.RefTables

@[expose] public section

set_option maxRecDepth 16384
set_option maxHeartbeats 1000000

noncomputable section

namespace Cert.KernelValue

open Cert.KernelIdeal Cert.KernelIdeal.Gen Idealize.ShloMosaic Idealize.ShloMosaic.TcCoe Idealize.ShloMosaic.Tactic
open Cert.RefValue (bat pos bn encodedOf firstOf maskOf featOf speedNet)

/-- The batch-norm factor is not negative. -/
theorem bn_nonneg : 0 ≤ bn := by
  unfold bn
  simp [Ideal.ofBits, Ideal.ieee, -EReal.coe_mul]

/-- A bit is 0 or 1. -/
theorem bit_cases (b : BitVec 1) : b = 0#1 ∨ b = 1#1 := by
  revert b; decide

/-- The widened mask bit, compared with zero and made a number, is the bit's number. -/
theorem mask_number (b : BitVec 1) :
    FloatOps.sitofp (F := Ideal) .f32 (BitVec.setWidth 32 (IntOp.cmpi .ne (BitVec.setWidth 32 b) 0#32))
      = FloatOps.uitofp (F := Ideal) .f32 b := by
  rcases bit_cases b with rfl | rfl
  · show (((BitVec.setWidth 32 (IntOp.cmpi .ne (BitVec.setWidth 32 0#1) 0#32)).toInt : ℝ) : EReal) = (((0#1).toNat : ℝ) : EReal)
    rw [show (BitVec.setWidth 32 (IntOp.cmpi .ne (BitVec.setWidth 32 0#1) 0#32)).toInt = 0 from by decide]
    simp
  · show (((BitVec.setWidth 32 (IntOp.cmpi .ne (BitVec.setWidth 32 1#1) 0#32)).toInt : ℝ) : EReal) = (((1#1).toNat : ℝ) : EReal)
    rw [show (BitVec.setWidth 32 (IntOp.cmpi .ne (BitVec.setWidth 32 1#1) 0#32)).toInt = 1 from by decide]
    simp

/-- Choosing by the widened bit being zero is choosing by the bit. -/
theorem has_choice (b : BitVec 1) (x y : EReal) :
    (if BitVec.setWidth 32 b = 0#32 then y else x) = Scalar.select b x y := by
  rcases bit_cases b with rfl | rfl <;> rfl

section Row

variable (x0 x1 : Vec Ideal S512x120 .f32) (x2 : Vec Ideal S512x60 .f32) (x3 : Vec Ideal S512x3 .f32)
  (x4 : Vec Ideal S512x20 .i32) (x5 x6 x7 x8 : Vec Ideal S512x1 .i32) (x9 : Vec Ideal S512x1 .f32)
  (x11 : Vec Ideal S1x128 .f32) (x13 : Vec Ideal S1x256 .f32) (x15 : Vec Ideal S1x256 .f32) (x17 : Vec Ideal S1x128 .f32)
  (x18 x19 : Vec Ideal S1x128 .f32) (x20 : Vec Ideal S128x128 .f32) (x21 : Vec Ideal S1x128 .f32)
  (x22 : Vec Ideal S3x128 .f32) (x23 : Vec Ideal S2x128 .f32) (x24 : Vec Ideal S4x128 .f32) (x25 : Vec Ideal S1x128 .f32)
  (w1 : Vec Ideal S128x2560 .f32) (w2 : Vec Ideal S128x256 .bf16) (w3a w3b : Vec Ideal S256x256 .bf16)
  (w4 : Vec Ideal S256x128 .bf16)
  (a0 : FVec Ideal S32x128x3 .f32) (a1 a2 a3 : IVec S32x128 32) (a4 : IVec S32x128 1) (a5 : FVec Ideal S32x128 .f32)
  (a6 a7 : FVec Ideal S32x128x3x20x2 .f32) (a8 : FVec Ideal S32x128x3x20 .f32) (a10 : IVec S32x128x20 1)
  (a11 : FVec Ideal S6x128 .f32) (a12 : FVec Ideal S128 .f32) (a13 : FVec Ideal S128x256 .f32) (a14 : FVec Ideal S256 .f32)
  (a15 : FVec Ideal S512x256 .f32) (a16 : FVec Ideal S256 .f32) (a17 : FVec Ideal S256x128 .f32) (a18 : FVec Ideal S128 .f32)
  (a20 : FVec Ideal S128 .f32) (a22 : FVec Ideal S128 .f32)
  (n : Fin 4096) (r : Fin 512)

/-- The encoder's row. -/
theorem encoder_row
    (e0 : ∀ (p : Fin 20) (j : Fin 2) h, x0 (ix2 r ⟨2 * p.val + j.val, h⟩) = a6 (ix5 (bat n) (pos n) (0 : Fin 3) p j))
    (e1 : ∀ (p : Fin 20) (j : Fin 2) h, x1 (ix2 r ⟨2 * p.val + j.val, h⟩) = a7 (ix5 (bat n) (pos n) (0 : Fin 3) p j))
    (e2 : ∀ (p : Fin 20) h, x2 (ix2 r ⟨p.val, h⟩) = a8 (ix4 (bat n) (pos n) (0 : Fin 3) p))
    (e3 : ∀ j : Fin 3, x3 (ix2 r j) = a0 (ix3 (bat n) (pos n) j))
    (e4 : ∀ p : Fin 20, x4 (ix2 r p) = BitVec.setWidth 32 (a10 (ix3 (bat n) (pos n) p)))
    (e11 : ∀ k, x11 (ix2 (0 : Fin 1) k) = a12 (ix1 k)) (e13 : ∀ k, x13 (ix2 (0 : Fin 1) k) = a14 (ix1 k))
    (e15 : ∀ k, x15 (ix2 (0 : Fin 1) k) = a16 (ix1 k)) (e17 : ∀ k, x17 (ix2 (0 : Fin 1) k) = a18 (ix1 k))
    (g1 : ∀ (i : Fin 128) (p : Fin 20) (k : Fin 128) (h : 128 * p.val + k.val < 2560),
      w1 (ix2 i ⟨128 * p.val + k.val, h⟩) = Net.spread (fun i k => a11 (ix2 i k)) i.val p k)
    (g2 : ∀ i j, w2 (ix2 i j) = a13 (ix2 i j) * bn)
    (g3a : ∀ i j : Fin 256, w3a (ix2 i j) = a15 (ix2 (⟨i, by have := i.isLt; omega⟩ : Fin 512) j))
    (g3b : ∀ i j : Fin 256, w3b (ix2 i j) = a15 (ix2 (⟨256 + i, by have := i.isLt; omega⟩ : Fin 512) j))
    (g4 : ∀ i j, w4 (ix2 i j) = a17 (ix2 i j) * bn)
    (fc : ∀ j : Fin 3, j.val < 2 → a0 (ix3 (bat n) (pos n) j) ≠ ⊤ ∧ a0 (ix3 (bat n) (pos n) j) ≠ ⊥)
    (fw0 : ∀ k, a11 (ix2 (0 : Fin 6) k) ≠ ⊤ ∧ a11 (ix2 (0 : Fin 6) k) ≠ ⊥)
    (fw1 : ∀ k, a11 (ix2 (1 : Fin 6) k) ≠ ⊤ ∧ a11 (ix2 (1 : Fin 6) k) ≠ ⊥) (d : Fin 128) :
    encoded (View.ld x2 (Rect.unit (s := S512x60) ![0, 0] S512x20.size inb_S512x60_S512x20_0_0))
      (View.ld x0 (Rect.unit (s := S512x120) ![0, 0] S512x40.size inb_S512x120_S512x40_0_0))
      (View.ld x1 (Rect.unit (s := S512x120) ![0, 0] S512x40.size inb_S512x120_S512x40_0_0))
      (View.ld x3 (Rect.unit (s := S512x3) ![0, 0] S512x2.size inb_S512x3_S512x2_0_0))
      w1 x11 w2 x13 x4 w3a w3b x15 w4 x17 (ix2 r d)
      = encodedOf a0 a6 a7 a8 a10 a11 a12 a13 a14 a15 a16 a17 a18 n d := by
  have c3 : ∀ j : Fin 2, View.ld x3 (Rect.unit (s := S512x3) ![0, 0] S512x2.size inb_S512x3_S512x2_0_0) (ix2 r j)
      = a0 (ix3 (bat n) (pos n) (⟨j, by have := j.isLt; omega⟩ : Fin 3)) := fun j => (ld_centre x3 r j).trans (e3 _)
  rw [encoded_apply (w := fun i k => a11 (ix2 i k)) (hw := g1) (r := r)
    (fc := fun j => by rw [c3 j]; exact fc _ j.isLt) (fw0 := fw0) (fw1 := fw1) (d := d)]
  unfold encodedOf
  rw [← Net.encode_folded bn bn_nonneg]
  have hfeat : ∀ p, featAt (View.ld x2 (Rect.unit (s := S512x60) ![0, 0] S512x20.size inb_S512x60_S512x20_0_0))
      (View.ld x0 (Rect.unit (s := S512x120) ![0, 0] S512x40.size inb_S512x120_S512x40_0_0))
      (View.ld x1 (Rect.unit (s := S512x120) ![0, 0] S512x40.size inb_S512x120_S512x40_0_0))
      (View.ld x3 (Rect.unit (s := S512x3) ![0, 0] S512x2.size inb_S512x3_S512x2_0_0)) r p = featOf a0 a6 a7 a8 n p := by
    intro p
    unfold featAt featOf
    have c0 := fun j : Fin 2 => (ld_pairs x0 r ⟨2 * p.val + j.val, by omega⟩).trans (e0 p j _)
    have c1 := fun j : Fin 2 => (ld_pairs x1 r ⟨2 * p.val + j.val, by omega⟩).trans (e1 p j _)
    have c2 := (ld_points x2 r p).trans (e2 p _)
    rw [c2, funext c0, funext c1, funext c3]
  have hfirst : (fun (p : Fin 20) (k : Fin 128) => Net.dotRow (featAt (View.ld x2 (Rect.unit (s := S512x60) ![0, 0] S512x20.size inb_S512x60_S512x20_0_0))
      (View.ld x0 (Rect.unit (s := S512x120) ![0, 0] S512x40.size inb_S512x120_S512x40_0_0))
      (View.ld x1 (Rect.unit (s := S512x120) ![0, 0] S512x40.size inb_S512x120_S512x40_0_0))
      (View.ld x3 (Rect.unit (s := S512x3) ![0, 0] S512x2.size inb_S512x3_S512x2_0_0)) r p) (fun i k => a11 (ix2 i k)) k
        + x11 (ix2 (0 : Fin 1) k)) = firstOf a0 a6 a7 a8 a11 a12 n := by
    funext p k
    rw [hfeat p, e11 k]
    rfl
  have hmask : maskAt x4 r = maskOf a10 n := by
    funext p
    unfold maskAt maskOf
    rw [e4 p]
    exact mask_number _
  rw [hfirst, hmask]
  simp only [e13, e15, e17, g2, g3a, g3b, g4]

/-- The row's entry of what the body stores. -/
theorem block_row
    (e0 : ∀ (p : Fin 20) (j : Fin 2) h, x0 (ix2 r ⟨2 * p.val + j.val, h⟩) = a6 (ix5 (bat n) (pos n) (0 : Fin 3) p j))
    (e1 : ∀ (p : Fin 20) (j : Fin 2) h, x1 (ix2 r ⟨2 * p.val + j.val, h⟩) = a7 (ix5 (bat n) (pos n) (0 : Fin 3) p j))
    (e2 : ∀ (p : Fin 20) h, x2 (ix2 r ⟨p.val, h⟩) = a8 (ix4 (bat n) (pos n) (0 : Fin 3) p))
    (e3 : ∀ j : Fin 3, x3 (ix2 r j) = a0 (ix3 (bat n) (pos n) j))
    (e4 : ∀ p : Fin 20, x4 (ix2 r p) = BitVec.setWidth 32 (a10 (ix3 (bat n) (pos n) p)))
    (e5 : x5 (ix2 r (0 : Fin 1)) = a1 (ix2 (bat n) (pos n))) (e6 : x6 (ix2 r (0 : Fin 1)) = a2 (ix2 (bat n) (pos n)))
    (e7 : x7 (ix2 r (0 : Fin 1)) = a3 (ix2 (bat n) (pos n)))
    (e8 : x8 (ix2 r (0 : Fin 1)) = BitVec.setWidth 32 (a4 (ix2 (bat n) (pos n))))
    (e9 : x9 (ix2 r (0 : Fin 1)) = a5 (ix2 (bat n) (pos n)))
    (e11 : ∀ k, x11 (ix2 (0 : Fin 1) k) = a12 (ix1 k)) (e13 : ∀ k, x13 (ix2 (0 : Fin 1) k) = a14 (ix1 k))
    (e15 : ∀ k, x15 (ix2 (0 : Fin 1) k) = a16 (ix1 k)) (e17 : ∀ k, x17 (ix2 (0 : Fin 1) k) = a18 (ix1 k))
    (e19 : ∀ k, x19 (ix2 (0 : Fin 1) k) = a20 (ix1 k)) (e21 : ∀ k, x21 (ix2 (0 : Fin 1) k) = a22 (ix1 k))
    (g1 : ∀ (i : Fin 128) (p : Fin 20) (k : Fin 128) (h : 128 * p.val + k.val < 2560),
      w1 (ix2 i ⟨128 * p.val + k.val, h⟩) = Net.spread (fun i k => a11 (ix2 i k)) i.val p k)
    (g2 : ∀ i j, w2 (ix2 i j) = a13 (ix2 i j) * bn)
    (g3a : ∀ i j : Fin 256, w3a (ix2 i j) = a15 (ix2 (⟨i, by have := i.isLt; omega⟩ : Fin 512) j))
    (g3b : ∀ i j : Fin 256, w3b (ix2 i j) = a15 (ix2 (⟨256 + i, by have := i.isLt; omega⟩ : Fin 512) j))
    (g4 : ∀ i j, w4 (ix2 i j) = a17 (ix2 i j) * bn)
    (fc : ∀ j : Fin 3, j.val < 2 → a0 (ix3 (bat n) (pos n) j) ≠ ⊤ ∧ a0 (ix3 (bat n) (pos n) j) ≠ ⊥)
    (fw0 : ∀ k, a11 (ix2 (0 : Fin 6) k) ≠ ⊤ ∧ a11 (ix2 (0 : Fin 6) k) ≠ ⊥)
    (fw1 : ∀ k, a11 (ix2 (1 : Fin 6) k) ≠ ⊤ ∧ a11 (ix2 (1 : Fin 6) k) ≠ ⊥)
    (h1 : (a1 (ix2 (bat n) (pos n))).toNat < 3) (h2 : (a2 (ix2 (bat n) (pos n))).toNat < 2)
    (h3 : (a3 (ix2 (bat n) (pos n))).toNat < 4) (d : Fin 128) :
    blockOf x0 x1 x2 x3 x4 x5 x6 x7 x8 x9 x11 x13 x15 x17 x18 x19 x20 x21 x22 x23 x24 x25 w1 w2 w3a w3b w4 (ix2 r d)
      = (((encodedOf a0 a6 a7 a8 a10 a11 a12 a13 a14 a15 a16 a17 a18 n d
          + x22 (ix2 (⟨(a1 (ix2 (bat n) (pos n))).toNat, h1⟩ : Fin 3) d))
          + x23 (ix2 (⟨(a2 (ix2 (bat n) (pos n))).toNat, h2⟩ : Fin 2) d))
          + x24 (ix2 (⟨(a3 (ix2 (bat n) (pos n))).toNat, h3⟩ : Fin 4) d))
        + Scalar.select (a4 (ix2 (bat n) (pos n))) (speedNet x18 a20 x20 a22 (a5 (ix2 (bat n) (pos n))) d)
            (x25 (ix2 (0 : Fin 1) d)) := by
  unfold blockOf
  rw [total_apply (h1 := by rw [e5]; exact h1) (h2 := by rw [e6]; exact h2) (h3 := by rw [e7]; exact h3),
    encoder_row x0 x1 x2 x3 x4 x11 x13 x15 x17 w1 w2 w3a w3b w4 a0 a6 a7 a8 a10 a11 a12 a13 a14 a15 a16 a17 a18 n r
      e0 e1 e2 e3 e4 e11 e13 e15 e17 g1 g2 g3a g3b g4 fc fw0 fw1 d]
  have hs : speedRow x18 x19 x20 x21 (x9 (ix2 r (0 : Fin 1))) d = speedNet x18 a20 x20 a22 (a5 (ix2 (bat n) (pos n))) d := by
    unfold speedRow speedNet Net.dotRow Net.relu
    simp only [e9, e19, e21]
  rw [hs]
  simp only [e5, e6, e7, e8, has_choice]

end Row

end Cert.KernelValue
-- ==== Proof.KernelResult.lean ====
/-
  What a grid point stores, in terms of the program's arguments: the reference's rows.
-/
module

public import proofs.«01_k».proof.Proof.KernelGrid
public import proofs.«01_k».proof.Proof.KernelHost
public import proofs.«01_k».proof.Proof.KernelRow

@[expose] public section

set_option maxRecDepth 16384
set_option maxHeartbeats 1000000

noncomputable section

namespace Cert.KernelValue

open Cert.KernelIdeal Cert.KernelIdeal.Gen Idealize.ShloMosaic Idealize.ShloMosaic.TcCoe Idealize.ShloMosaic.Tactic
open Cert.RefValue (bat pos bn encodedOf firstOf maskOf featOf speedNet)

variable (m : (ℓ : Loc nD τ sig) → Buf (Elt Ideal) ℓ) (c : Dev nD)

/-- Entry (r, d) of what point `t` stores is the reference's entry of row `n = 512·t + r`. -/
theorem stored_row (t : Fin cfg0.N) (r : Fin 512) (n : Fin 4096) (hn : n = ⟨t.val * 512 + r.val, row_lt t r⟩)
    (a0 : FVec Ideal S32x128x3 .f32) (a1 a2 a3 : IVec S32x128 32) (a4 : IVec S32x128 1) (a5 : FVec Ideal S32x128 .f32)
    (a6 a7 : FVec Ideal S32x128x3x20x2 .f32) (a8 : FVec Ideal S32x128x3x20 .f32) (a10 : IVec S32x128x20 1)
    (a11 : FVec Ideal S6x128 .f32) (a12 : FVec Ideal S128 .f32) (a13 : FVec Ideal S128x256 .f32) (a14 : FVec Ideal S256 .f32)
    (a15 : FVec Ideal S512x256 .f32) (a16 : FVec Ideal S256 .f32) (a17 : FVec Ideal S256x128 .f32) (a18 : FVec Ideal S128 .f32)
    (a19 : FVec Ideal S1x128 .f32) (a20 : FVec Ideal S128 .f32) (a21 : FVec Ideal S128x128 .f32) (a22 : FVec Ideal S128 .f32)
    (a23 : FVec Ideal S3x128 .f32) (a24 : FVec Ideal S2x128 .f32) (a25 : FVec Ideal S4x128 .f32) (a26 : FVec Ideal S1x128 .f32)
    (q0 : m ((c : Thread nD τ).loc main_arg0) = a0) (q1 : m ((c : Thread nD τ).loc main_arg1) = a1)
    (q2 : m ((c : Thread nD τ).loc main_arg2) = a2) (q3 : m ((c : Thread nD τ).loc main_arg3) = a3)
    (q4 : m ((c : Thread nD τ).loc main_arg4) = a4) (q5 : m ((c : Thread nD τ).loc main_arg5) = a5)
    (q6 : m ((c : Thread nD τ).loc main_arg6) = a6) (q7 : m ((c : Thread nD τ).loc main_arg7) = a7)
    (q8 : m ((c : Thread nD τ).loc main_arg8) = a8) (q10 : m ((c : Thread nD τ).loc main_arg10) = a10)
    (q11 : m ((c : Thread nD τ).loc main_arg11) = a11) (q12 : m ((c : Thread nD τ).loc main_arg12) = a12)
    (q13 : m ((c : Thread nD τ).loc main_arg13) = a13) (q14 : m ((c : Thread nD τ).loc main_arg14) = a14)
    (q15 : m ((c : Thread nD τ).loc main_arg15) = a15) (q16 : m ((c : Thread nD τ).loc main_arg16) = a16)
    (q17 : m ((c : Thread nD τ).loc main_arg17) = a17) (q18 : m ((c : Thread nD τ).loc main_arg18) = a18)
    (q19 : m ((c : Thread nD τ).loc main_arg19) = a19) (q20 : m ((c : Thread nD τ).loc main_arg20) = a20)
    (q21 : m ((c : Thread nD τ).loc main_arg21) = a21) (q22 : m ((c : Thread nD τ).loc main_arg22) = a22)
    (q23 : m ((c : Thread nD τ).loc main_arg23) = a23) (q24 : m ((c : Thread nD τ).loc main_arg24) = a24)
    (q25 : m ((c : Thread nD τ).loc main_arg25) = a25) (q26 : m ((c : Thread nD τ).loc main_arg26) = a26)
    (fc : ∀ j : Fin 3, j.val < 2 → a0 (ix3 (bat n) (pos n) j) ≠ ⊤ ∧ a0 (ix3 (bat n) (pos n) j) ≠ ⊥)
    (fw0 : ∀ k, a11 (ix2 (0 : Fin 6) k) ≠ ⊤ ∧ a11 (ix2 (0 : Fin 6) k) ≠ ⊥)
    (fw1 : ∀ k, a11 (ix2 (1 : Fin 6) k) ≠ ⊤ ∧ a11 (ix2 (1 : Fin 6) k) ≠ ⊥)
    (h1 : (a1 (ix2 (bat n) (pos n))).toNat < 3) (h2 : (a2 (ix2 (bat n) (pos n))).toNat < 2)
    (h3 : (a3 (ix2 (bat n) (pos n))).toNat < 4) (d : Fin 128) :
    stored m c t (filled (V m c main_arg11) (V m c main_arg13) (V m c main_arg15) (V m c main_arg17)) (ix2 r d)
      = (((encodedOf a0 a6 a7 a8 a10 a11 a12 a13 a14 a15 a16 a17 a18 n d
          + a23 (ix2 (⟨(a1 (ix2 (bat n) (pos n))).toNat, h1⟩ : Fin 3) d))
          + a24 (ix2 (⟨(a2 (ix2 (bat n) (pos n))).toNat, h2⟩ : Fin 2) d))
          + a25 (ix2 (⟨(a3 (ix2 (bat n) (pos n))).toNat, h3⟩ : Fin 4) d))
        + Scalar.select (a4 (ix2 (bat n) (pos n))) (speedNet a19 a20 a21 a22 (a5 (ix2 (bat n) (pos n))) d)
            (a26 (ix2 (0 : Fin 1) d)) := by
  obtain ⟨-, w11, -, w13, -, w15, -, w17, w18, w19, w20, w21, w22, w23, w24, w25⟩ := whole_blocks m c t
  obtain ⟨r0, r1, r2, r3, r4, r5, r6, r7, r8, r9⟩ := row_blocks m c t r
  obtain ⟨p0, p1, p2, p3, p5, p6, p7, p9, p10, p11, p12, p13, p14, p15⟩ := host_reshapes m c
  obtain ⟨p16, p17⟩ := host_bits m c
  rw [← hn] at r0 r1 r2 r3 r4 r5 r6 r7 r8 r9
  rw [p0, q6] at r0
  rw [p1, q7] at r1
  rw [p2, q8] at r2
  rw [p3, q0] at r3
  rw [p16, q10] at r4
  rw [p5, q1] at r5
  rw [p6, q2] at r6
  rw [p7, q3] at r7
  rw [p17, q4] at r8
  rw [p9, q5] at r9
  rw [p10, q12] at w11
  rw [p11, q14] at w13
  rw [p12, q16] at w15
  rw [p13, q18] at w17
  rw [V_main_arg19, q19] at w18
  rw [p14, q20] at w19
  rw [V_main_arg21, q21] at w20
  rw [p15, q22] at w21
  rw [V_main_arg23, q23] at w22
  rw [V_main_arg24, q24] at w23
  rw [V_main_arg25, q25] at w24
  rw [V_main_arg26, q26] at w25
  rw [V_main_arg11, V_main_arg13, V_main_arg15, V_main_arg17, q11, q13, q15, q17]
  unfold stored
  rw [w18, w20, w22, w23, w24, w25]
  unfold filled
  exact block_row (iblk m c 0 t) (iblk m c 1 t) (iblk m c 2 t) (iblk m c 3 t) (iblk m c 4 t) (iblk m c 5 t) (iblk m c 6 t)
    (iblk m c 7 t) (iblk m c 8 t) (iblk m c 9 t) (iblk m c 11 t) (iblk m c 13 t) (iblk m c 15 t) (iblk m c 17 t) a19
    (iblk m c 19 t) a21 (iblk m c 21 t) a23 a24 a25 a26 _ _ _ _ _
    a0 a1 a2 a3 a4 a5 a6 a7 a8 a10 a11 a12 a13 a14 a15 a16 a17 a18 a20 a22 n r
    (fun p j h => (r0 _).trans (cast_pairs a6 n p j h)) (fun p j h => (r1 _).trans (cast_pairs a7 n p j h))
    (fun p h => (r2 _).trans (cast_points a8 n p h)) (fun j => (r3 j).trans (cast_centre a0 n j))
    (fun p => (r4 p).trans (congrArg (BitVec.setWidth 32) (cast_mask a10 n p)))
    ((r5 0).trans (cast_column a1 n)) ((r6 0).trans (cast_column a2 n)) ((r7 0).trans (cast_column a3 n))
    ((r8 0).trans (congrArg (BitVec.setWidth 32) (cast_column a4 n))) ((r9 0).trans (cast_column a5 n))
    (fun k => (congrFun w11 _).trans (cast_row a12 k)) (fun k => (congrFun w13 _).trans (cast_wide_row a14 k))
    (fun k => (congrFun w15 _).trans (cast_wide_row a16 k)) (fun k => (congrFun w17 _).trans (cast_row a18 k))
    (fun k => (congrFun w19 _).trans (cast_row a20 k)) (fun k => (congrFun w21 _).trans (cast_row a22 k))
    (fun i p k h => spread_apply a11 i p k h) (fun i j => scaled2_apply _ a13 i j)
    (fun i j => upper3_apply a15 i j) (fun i j => lower3_apply a15 i j) (fun i j => scaled4_apply _ a17 i j)
    fc fw0 fw1 h1 h2 h3 d

end Cert.KernelValue
-- ==== Proof.Equation.lean ====
/-
  The value claim's equation: what the kernel's run leaves is the reference's result, entry by entry.
-/
module

public import proofs.«01_k».proof.Proof.KernelRun
public import proofs.«01_k».proof.Proof.KernelResult
public import proofs.«01_k».proof.Proof.RefTables
public import proofs.«01_k».proof.Proof.Pre

@[expose] public section

set_option maxRecDepth 16384
set_option maxHeartbeats 1000000

noncomputable section

namespace Cert.KernelValue

open Cert.KernelIdeal Cert.KernelIdeal.Gen Cert.KernelIdeal.Value Idealize.ShloMosaic Idealize.ShloMosaic.TcCoe
open Idealize.ShloMosaic.Tactic Cert.RefValue

variable (m : (ℓ : Loc nD τ sig) → Buf (Elt Ideal) ℓ) (c : Dev nD)

/-- Under the precondition, the array the kernel's run leaves is the reference's function of the same arguments. -/
theorem result_eq [Cert.Pre_drawn.Facts]
    (hpre : Cert.Pre_drawn.fn (F := Ideal)
        (m ((c.tc : Thread nD τ).loc main_arg0)) (m ((c.tc : Thread nD τ).loc main_arg1)) (m ((c.tc : Thread nD τ).loc
        main_arg2)) (m ((c.tc : Thread nD τ).loc main_arg3)) (m ((c.tc : Thread nD τ).loc main_arg4)) (m ((c.tc :
        Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc
        main_arg10)) (m ((c.tc : Thread nD τ).loc main_arg11)) (m ((c.tc : Thread nD τ).loc main_arg12)) (m ((c.tc :
        Thread nD τ).loc main_arg13)) (m ((c.tc : Thread nD τ).loc main_arg14)) (m ((c.tc : Thread nD τ).loc
        main_arg15)) (m ((c.tc : Thread nD τ).loc main_arg16)) (m ((c.tc : Thread nD τ).loc main_arg17)) (m ((c.tc :
        Thread nD τ).loc main_arg18)) (m ((c.tc : Thread nD τ).loc main_arg19)) (m ((c.tc : Thread nD τ).loc
        main_arg20)) (m ((c.tc : Thread nD τ).loc main_arg21)) (m ((c.tc : Thread nD τ).loc main_arg22)) (m ((c.tc :
        Thread nD τ).loc main_arg23)) (m ((c.tc : Thread nD τ).loc main_arg24)) (m ((c.tc : Thread nD τ).loc
        main_arg25)) (m ((c.tc : Thread nD τ).loc main_arg26)) = fun _ => 1#1) :
    G26 m c = Cert.ReferenceIdeal.Read.val_main_v72 (F := Ideal)
        (m ((c.tc : Thread nD τ).loc main_arg0)) (m ((c.tc : Thread nD τ).loc main_arg1)) (m ((c.tc : Thread nD τ).loc
        main_arg2)) (m ((c.tc : Thread nD τ).loc main_arg3)) (m ((c.tc : Thread nD τ).loc main_arg4)) (m ((c.tc :
        Thread nD τ).loc main_arg5)) (m ((c.tc : Thread nD τ).loc main_arg6)) (m ((c.tc : Thread nD τ).loc main_arg7))
        (m ((c.tc : Thread nD τ).loc main_arg8)) (m ((c.tc : Thread nD τ).loc main_arg10)) (m ((c.tc : Thread nD
        τ).loc main_arg11)) (m ((c.tc : Thread nD τ).loc main_arg12)) (m ((c.tc : Thread nD τ).loc main_arg13)) (m
        ((c.tc : Thread nD τ).loc main_arg14)) (m ((c.tc : Thread nD τ).loc main_arg15)) (m ((c.tc : Thread nD τ).loc
        main_arg16)) (m ((c.tc : Thread nD τ).loc main_arg17)) (m ((c.tc : Thread nD τ).loc main_arg18)) (m ((c.tc :
        Thread nD τ).loc main_arg19)) (m ((c.tc : Thread nD τ).loc main_arg20)) (m ((c.tc : Thread nD τ).loc
        main_arg21)) (m ((c.tc : Thread nD τ).loc main_arg22)) (m ((c.tc : Thread nD τ).loc main_arg23)) (m ((c.tc :
        Thread nD τ).loc main_arg24)) (m ((c.tc : Thread nD τ).loc main_arg25)) (m ((c.tc : Thread nD τ).loc
        main_arg26)) := by
  obtain ⟨k1, k2, k3, kc, kw0, kw1⟩ := Cert.Drawn.drawn_holds
    (m ((c.tc : Thread nD τ).loc main_arg0)) (m ((c.tc : Thread nD τ).loc main_arg1)) (m ((c.tc : Thread nD τ).loc
    main_arg2)) (m ((c.tc : Thread nD τ).loc main_arg3)) (m ((c.tc : Thread nD τ).loc main_arg11)) (m ((c.tc : Thread
    nD τ).loc main_arg4)) (m ((c.tc : Thread nD τ).loc main_arg5)) (m ((c.tc : Thread nD τ).loc main_arg6)) (m ((c.tc
    : Thread nD τ).loc main_arg7)) (m ((c.tc : Thread nD τ).loc main_arg8)) (m ((c.tc : Thread nD τ).loc main_arg9))
    (m ((c.tc : Thread nD τ).loc main_arg10)) (m ((c.tc : Thread nD τ).loc main_arg12)) (m ((c.tc : Thread nD τ).loc
    main_arg13)) (m ((c.tc : Thread nD τ).loc main_arg14)) (m ((c.tc : Thread nD τ).loc main_arg15)) (m ((c.tc :
    Thread nD τ).loc main_arg16)) (m ((c.tc : Thread nD τ).loc main_arg17)) (m ((c.tc : Thread nD τ).loc main_arg18))
    (m ((c.tc : Thread nD τ).loc main_arg19)) (m ((c.tc : Thread nD τ).loc main_arg20)) (m ((c.tc : Thread nD τ).loc
    main_arg21)) (m ((c.tc : Thread nD τ).loc main_arg22)) (m ((c.tc : Thread nD τ).loc main_arg23)) (m ((c.tc :
    Thread nD τ).loc main_arg24)) (m ((c.tc : Thread nD τ).loc main_arg25)) (m ((c.tc : Thread nD τ).loc main_arg26)) hpre
  funext i
  obtain ⟨n, d, rfl⟩ : ∃ (n : Fin 4096) (d : Fin 128), i = ix2 n d :=
    ⟨i 0, i 1, funext (Fin.forall_fin_two.2 ⟨rfl, rfl⟩)⟩
  have hN : cfg0.N = 8 := N_0
  obtain ⟨t, r, hn⟩ : ∃ (t : Fin cfg0.N) (r : Fin 512), n = ⟨t.val * 512 + r.val, row_lt t r⟩ :=
    ⟨⟨n.val / 512, by have := n.isLt; omega⟩, ⟨n.val % 512, Nat.mod_lt _ (by decide)⟩,
      Fin.ext (show n.val = n.val / 512 * 512 + n.val % 512 by omega)⟩
  have e := result_row m c t r d
  rw [← hn] at e
  refine e.trans ?_
  refine (stored_row m c t r n hn
    (m ((c.tc : Thread nD τ).loc main_arg0)) (m ((c.tc : Thread nD τ).loc main_arg1)) (m ((c.tc : Thread nD τ).loc
    main_arg2)) (m ((c.tc : Thread nD τ).loc main_arg3)) (m ((c.tc : Thread nD τ).loc main_arg4)) (m ((c.tc : Thread
    nD τ).loc main_arg5)) (m ((c.tc : Thread nD τ).loc main_arg6)) (m ((c.tc : Thread nD τ).loc main_arg7)) (m ((c.tc
    : Thread nD τ).loc main_arg8)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc
    main_arg14)) (m ((c.tc : Thread nD τ).loc main_arg15)) (m ((c.tc : Thread nD τ).loc main_arg16)) (m ((c.tc :
    Thread nD τ).loc main_arg17)) (m ((c.tc : Thread nD τ).loc main_arg18)) (m ((c.tc : Thread nD τ).loc main_arg19))
    (m ((c.tc : Thread nD τ).loc main_arg20)) (m ((c.tc : Thread nD τ).loc main_arg21)) (m ((c.tc : Thread nD τ).loc
    main_arg22)) (m ((c.tc : Thread nD τ).loc main_arg23)) (m ((c.tc : Thread nD τ).loc main_arg24)) (m ((c.tc :
    Thread nD τ).loc main_arg25)) (m ((c.tc : Thread nD τ).loc main_arg26))
    rfl rfl rfl rfl rfl rfl rfl rfl rfl rfl rfl rfl rfl rfl rfl rfl rfl rfl rfl rfl rfl rfl rfl rfl rfl rfl
    (fun j hj => kc (bat n) (pos n) j hj) kw0 kw1 (k1 _) (k2 _) (k3 _) d).trans ?_
  exact (result_apply
    (m ((c.tc : Thread nD τ).loc main_arg1)) (m ((c.tc : Thread nD τ).loc main_arg2)) (m ((c.tc : Thread nD τ).loc
    main_arg3)) (m ((c.tc : Thread nD τ).loc main_arg4)) (m ((c.tc : Thread nD τ).loc main_arg5)) (m ((c.tc : Thread
    nD τ).loc main_arg19)) (m ((c.tc : Thread nD τ).loc main_arg20)) (m ((c.tc : Thread nD τ).loc main_arg21)) (m
    ((c.tc : Thread nD τ).loc main_arg22)) (m ((c.tc : Thread nD τ).loc main_arg23)) (m ((c.tc : Thread nD τ).loc
    main_arg24)) (m ((c.tc : Thread nD τ).loc main_arg25)) (m ((c.tc : Thread nD τ).loc main_arg26)) (m ((c.tc :
    Thread nD τ).loc main_arg0)) (m ((c.tc : Thread nD τ).loc main_arg6)) (m ((c.tc : Thread nD τ).loc main_arg7)) (m
    ((c.tc : Thread nD τ).loc main_arg8)) (m ((c.tc : Thread nD τ).loc main_arg10)) (m ((c.tc : Thread nD τ).loc
    main_arg11)) (m ((c.tc : Thread nD τ).loc main_arg12)) (m ((c.tc : Thread nD τ).loc main_arg13)) (m ((c.tc :
    Thread nD τ).loc main_arg14)) (m ((c.tc : Thread nD τ).loc main_arg15)) (m ((c.tc : Thread nD τ).loc main_arg16))
    (m ((c.tc : Thread nD τ).loc main_arg17)) (m ((c.tc : Thread nD τ).loc main_arg18))
    n d (k1 _) (k2 _) (k3 _)).symm

end Cert.KernelValue
-- ==== Proof.lean ====
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Equation
public import Idealize.ShloMosaic.Adequacy
public import Idealize.ShloMosaic.Init

@[expose] public section

set_option maxRecDepth 16384
set_option maxHeartbeats 1000000

noncomputable section

namespace Cert.Proof

open Idealize.ShloMosaic Idealize.SL.Sem Cert.Kernel

instance : Cert.Pre_drawn.Facts := Cert.Drawn.facts

/-- The reference runs, leaves its arguments alone and has no semaphore to leave. -/
theorem reference_frame : Cert.quiescent_ReferenceIdeal := fun m g _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m g)

/-- The kernel over the extended reals and the reference end with equal results and unchanged arguments. -/
theorem algebraic : Cert.algebraic_KernelIdeal_ReferenceIdeal_pre_drawn := by
  intro m g m' g' hpre hagree
  refine ⟨fun c => Cert.KernelIdeal.Value.G26 m c, Cert.KernelIdeal.Value.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨a0, a1, a2, a3, a4, a5, a6, a7, a8, a9, a10, a11, a12, a13, a14, a15, a16, a17, a18, a19, a20, a21, a22, a23, a24,
    a25, a26⟩ := hagree c
  rw [Cert.ReferenceIdeal.Read.val_main_v72_eq m' c, a0, a1, a2, a3, a4, a5, a6, a7, a8, a10, a11, a12, a13, a14, a15, a16, a17,
    a18, a19, a20, a21, a22, a23, a24, a25, a26]
  exact (Cert.KernelValue.result_eq m c (hpre c)).symm

/-- Everything claimed. -/
theorem claim : Cert.Claim := ⟨Cert.Kernel.Gen.facts, Cert.KernelIdeal.Gen.facts, Cert.ReferenceIdeal.Gen.facts, Cert.Drawn.facts,
  fun m g _ => Cert.Kernel.Gen.frame m g, fun m g _ => Cert.KernelIdeal.Gen.frame m g,
  fun m g _ => Cert.KernelIdeal.Gen.frame m g, reference_frame, fun m g _ => reference_frame m g trivial,
  trivial, algebraic⟩

end Cert.Proof

end
